-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_5" .f32 0x3E4CCCCD#32 ((1 / 5 : ℝ) : EReal)
  ∧ IdealRules.named_const.Statement Cert.KernelIdeal.κ "inv_6" .f32 0x3E2AAAAB#32 ((1 / 6 : ℝ) : EReal)
  ∧ IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v73_8) = v1 c
          ∧ r.2.mem ((c.tc : Thread Cert.ReferenceIdeal.nD Cert.ReferenceIdeal.τ).loc Cert.ReferenceIdeal.main_v73_9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x256 : Shape := ⟨3, ![4, 256, 256]⟩
abbrev S2x256 : Shape := ⟨2, ![2, 256]⟩
abbrev S256x256 : Shape := ⟨2, ![256, 256]⟩
abbrev S256 : Shape := ⟨1, ![256]⟩
abbrev S1 : Shape := ⟨1, ![1]⟩
abbrev S1x256 : Shape := ⟨2, ![1, 256]⟩
abbrev S256x1 : Shape := ⟨2, ![256, 1]⟩
abbrev S1x1 : Shape := ⟨2, ![1, 1]⟩
abbrev S4x16x256 : Shape := ⟨3, ![4, 16, 256]⟩
abbrev S4x8x256 : Shape := ⟨3, ![4, 8, 256]⟩
abbrev S1x16x256 : Shape := ⟨3, ![1, 16, 256]⟩
abbrev S16x256 : Shape := ⟨2, ![16, 256]⟩
abbrev S16x1 : Shape := ⟨2, ![16, 1]⟩
abbrev S1x256x256 : Shape := ⟨3, ![1, 256, 256]⟩
abbrev S1x1x256 : Shape := ⟨3, ![1, 1, 256]⟩
abbrev S1x2x256 : Shape := ⟨3, ![1, 2, 256]⟩
abbrev S1x8x256 : Shape := ⟨3, ![1, 8, 256]⟩
abbrev S8x256 : Shape := ⟨2, ![8, 256]⟩
abbrev S1x1x1 : Shape := ⟨3, ![1, 1, 1]⟩

abbrev nBuf : Space → Nat
  | .hbm => 34
  | .vmem => 25
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S2x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S1, .f32⟩
  | .hbm, ⟨14, _⟩ => ⟨S256x256, .f32⟩
  | .hbm, ⟨15, _⟩ => ⟨S256, .f32⟩
  | .hbm, ⟨16, _⟩ => ⟨S4x256x256, .f32⟩
  | .hbm, ⟨17, _⟩ => ⟨S4x256x256, .f32⟩
  | .hbm, ⟨18, _⟩ => ⟨S256x256, .bf16⟩
  | .hbm, ⟨19, _⟩ => ⟨S1x256, .f32⟩
  | .hbm, ⟨20, _⟩ => ⟨S256x256, .bf16⟩
  | .hbm, ⟨21, _⟩ => ⟨S1x256, .f32⟩
  | .hbm, ⟨22, _⟩ => ⟨S256x256, .bf16⟩
  | .hbm, ⟨23, _⟩ => ⟨S1x256, .f32⟩
  | .hbm, ⟨24, _⟩ => ⟨S256x1, .f32⟩
  | .hbm, ⟨25, _⟩ => ⟨S256x1, .bf16⟩
  | .hbm, ⟨26, _⟩ => ⟨S1x1, .f32⟩
  | .hbm, ⟨27, _⟩ => ⟨S256x256, .bf16⟩
  | .hbm, ⟨28, _⟩ => ⟨S1x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .local _ .vmem, ⟨0, _⟩ => ⟨S4x16x256, .f32⟩
  | .local _ .vmem, ⟨1, _⟩ => ⟨S4x16x256, .f32⟩
  | .local _ .vmem, ⟨2, _⟩ => ⟨S4x16x256, .f32⟩
  | .local _ .vmem, ⟨3, _⟩ => ⟨S4x16x256, .f32⟩
  | .local _ .vmem, ⟨4, _⟩ => ⟨S4x16x256, .f32⟩
  | .local _ .vmem, ⟨5, _⟩ => ⟨S4x16x256, .f32⟩
  | .local _ .vmem, ⟨6, _⟩ => ⟨S4x256x256, .f32⟩
  | .local _ .vmem, ⟨7, _⟩ => ⟨S4x256x256, .f32⟩
  | .local _ .vmem, ⟨8, _⟩ => ⟨S2x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S256x1, .bf16⟩
  | .local _ .vmem, ⟨16, _⟩ => ⟨S1x1, .f32⟩
  | .local _ .vmem, ⟨17, _⟩ => ⟨S256x256, .bf16⟩
  | .local _ .vmem, ⟨18, _⟩ => ⟨S1x256, .f32⟩
  | .local _ .vmem, ⟨19, _⟩ => ⟨S4x16x256, .f32⟩
  | .local _ .vmem, ⟨20, _⟩ => ⟨S4x16x256, .f32⟩
  | .local _ .vmem, ⟨21, _⟩ => ⟨S4x256x256, .f32⟩
  | .local _ .vmem, ⟨22, _⟩ => ⟨S4x256x256, .f32⟩
  | .local _ .vmem, ⟨23, _⟩ => ⟨S4x8x256, .bf16⟩
  | .local _ .vmem, ⟨24, _⟩ => ⟨S4x8x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_v0_0 : Ref sig .tc := ⟨.hbm, 29, rfl⟩
abbrev main_call0_v13_1 : Ref sig .tc := ⟨.hbm, 30, rfl⟩
abbrev main_call0_v13_2 : Ref sig .tc := ⟨.hbm, 31, rfl⟩
abbrev main_v0_1 : Ref sig .tc := ⟨.hbm, 32, rfl⟩
abbrev main_v0_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg18_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem18_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_3" => some ((1 / 3 : ℝ) : EReal)
  | "inv_5" => some ((1 / 5 : ℝ) : EReal)
  | "inv_6" => some ((1 / 6 : ℝ) : EReal)
  | "inv_7" => some ((1 / 7 : ℝ) : EReal)
  | _ => none
-- ==== ReferenceIdeal.lean ====
abbrev S4x256x256 : Shape := ⟨3, ![4, 256, 256]⟩
abbrev S2x256 : Shape := ⟨2, ![2, 256]⟩
abbrev S256x256 : Shape := ⟨2, ![256, 256]⟩
abbrev S256 : Shape := ⟨1, ![256]⟩
abbrev S1 : Shape := ⟨1, ![1]⟩
abbrev S1x256 : Shape := ⟨2, ![1, 256]⟩
abbrev S1x1x256 : Shape := ⟨3, ![1, 1, 256]⟩
abbrev S_ : Shape := ⟨0, ![]⟩
abbrev S4x256 : Shape := ⟨2, ![4, 256]⟩
abbrev S256x4x256 : Shape := ⟨3, ![256, 4, 256]⟩
abbrev S256x4 : Shape := ⟨2, ![256, 4]⟩
abbrev S4x8x256 : Shape := ⟨3, ![4, 8, 256]⟩
abbrev S4x8 : Shape := ⟨2, ![4, 8]⟩
abbrev S1x4x256 : Shape := ⟨3, ![1, 4, 256]⟩
abbrev S1x4 : Shape := ⟨2, ![1, 4]⟩
abbrev S4 : Shape := ⟨1, ![4]⟩
abbrev S4x7x256 : Shape := ⟨3, ![4, 7, 256]⟩
abbrev S4x1x256 : Shape := ⟨3, ![4, 1, 256]⟩
abbrev S4x7 : Shape := ⟨2, ![4, 7]⟩
abbrev S4x1 : Shape := ⟨2, ![4, 1]⟩
abbrev S4x8x1 : Shape := ⟨3, ![4, 8, 1]⟩
abbrev S4x256x1 : Shape := ⟨3, ![4, 256, 1]⟩
abbrev S4x1x1 : Shape := ⟨3, ![4, 1, 1]⟩

abbrev nBuf : Space → Nat
  | .hbm => 206
  | .vmem => 0
  | .smem => 0
  | _ => 0

abbrev hbmTy0_0 (i : Nat) : BufTy := match i % 128 with
  | 0 => ⟨S4x256x256, .f32⟩
  | 1 => ⟨S4x256x256, .f32⟩
  | 2 => ⟨S4x256x256, .f32⟩
  | 3 => ⟨S4x256x256, .f32⟩
  | 4 => ⟨S4x256x256, .f32⟩
  | 5 => ⟨S2x256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S1, .f32⟩
  | 14 => ⟨S256x256, .f32⟩
  | 15 => ⟨S256, .f32⟩
  | 16 => ⟨S1x256, .f32⟩
  | 17 => ⟨S256, .f32⟩
  | 18 => ⟨S1x1x256, .f32⟩
  | 19 => ⟨S4x256x256, .f32⟩
  | 20 => ⟨S4x256x256, .f32⟩
  | 21 => ⟨S1x256, .f32⟩
  | 22 => ⟨S256, .f32⟩
  | 23 => ⟨S4x256x256, .f32⟩
  | 24 => ⟨S1x1x256, .f32⟩
  | 25 => ⟨S4x256x256, .f32⟩
  | 26 => ⟨S4x256x256, .f32⟩
  | 27 => ⟨S4x256x256, .f32⟩
  | 28 => ⟨S256x256, .f32⟩
  | 29 => ⟨S4x256x256, .f32⟩
  | 30 => ⟨S1x1x256, .f32⟩
  | 31 => ⟨S4x256x256, .f32⟩
  | 32 => ⟨S4x256x256, .f32⟩
  | 33 => ⟨S4x256x256, .f32⟩
  | 34 => ⟨S4x256x256, .f32⟩
  | 35 => ⟨S_, .f32⟩
  | 36 => ⟨S4x256x256, .f32⟩
  | 37 => ⟨S4x256x256, .f32⟩
  | 38 => ⟨S_, .f32⟩
  | 39 => ⟨S4x256x256, .f32⟩
  | 40 => ⟨S4x256x256, .f32⟩
  | 41 => ⟨S256x256, .f32⟩
  | 42 => ⟨S4x256x256, .f32⟩
  | 43 => ⟨S1x1x256, .f32⟩
  | 44 => ⟨S4x256x256, .f32⟩
  | 45 => ⟨S4x256x256, .f32⟩
  | 46 => ⟨S4x256x256, .f32⟩
  | 47 => ⟨S4x256x256, .f32⟩
  | 48 => ⟨S_, .f32⟩
  | 49 => ⟨S4x256x256, .f32⟩
  | 50 => ⟨S4x256x256, .f32⟩
  | 51 => ⟨S_, .f32⟩
  | 52 => ⟨S4x256x256, .f32⟩
  | 53 => ⟨S4x256x256, .f32⟩
  | 54 => ⟨S_, .f32⟩
  | 55 => ⟨S4x256x256, .f32⟩
  | 56 => ⟨S4x256x256, .f32⟩
  | 57 => ⟨S256x256, .f32⟩
  | 58 => ⟨S4x256x256, .f32⟩
  | 59 => ⟨S1x1x256, .f32⟩
  | 60 => ⟨S4x256x256, .f32⟩
  | 61 => ⟨S4x256x256, .f32⟩
  | 62 => ⟨S4x256x256, .f32⟩
  | 63 => ⟨S4x256x256, .f32⟩
  | 64 => ⟨S_, .f32⟩
  | 65 => ⟨S4x256x256, .f32⟩
  | 66 => ⟨S4x256x256, .f32⟩
  | 67 => ⟨S_, .f32⟩
  | 68 => ⟨S4x256x256, .f32⟩
  | 69 => ⟨S4x256x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S4x256, .f32⟩
  | 76 => ⟨S_, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S256, .i32⟩
  | 83 => ⟨S_, .i32⟩
  | 84 => ⟨S256, .i32⟩
  | 85 => ⟨S256, .i32⟩
  | 86 => ⟨S_, .i32⟩
  | 87 => ⟨S256, .i32⟩
  | 88 => ⟨S256, .i32⟩
  | 89 => ⟨S256, .f32⟩
  | 90 => ⟨S256x4x256, .f32⟩
  | 91 => ⟨S256x4x256, .f32⟩
  | 92 => ⟨S256x4, .f32⟩
  | 93 => ⟨S256x4x256, .f32⟩
  | 94 => ⟨S256x4x256, .f32⟩
  | 95 => ⟨S256x4x256, .f32⟩
  | 96 => ⟨S_, .f32⟩
  | 97 => ⟨S4x8x256, .f32⟩
  | 98 => ⟨S_, .f32⟩
  | 99 => ⟨S4x8x256, .f32⟩
  | 100 => ⟨S_, .f32⟩
  | 101 => ⟨S4x8, .f32⟩
  | 102 => ⟨S_, .f32⟩
  | 103 => ⟨S256x4x256, .f32⟩
  | 104 => ⟨S_, .i32⟩
  | 105 => ⟨S256x4x256, .f32⟩
  | 106 => ⟨S256x4x256, .f32⟩
  | 107 => ⟨S256x4, .f32⟩
  | 108 => ⟨S256x4x256, .f32⟩
  | 109 => ⟨S256x4x256, .f32⟩
  | 110 => ⟨S256x4x256, .f32⟩
  | 111 => ⟨S256, .f32⟩
  | 112 => ⟨S_, .i32⟩
  | 113 => ⟨S4x256x256, .f32⟩
  | 114 => ⟨S4x256x256, .f32⟩
  | 115 => ⟨S4x8x256, .f32⟩
  | 116 => ⟨S4x8x256, .f32⟩
  | 117 => ⟨S4x8, .f32⟩
  | 118 => ⟨S256x4x256, .f32⟩
  | 119 => ⟨S_, .i32⟩
  | 120 => ⟨S_, .i1⟩
  | 121 => ⟨S_, .i32⟩
  | 122 => ⟨S_, .i32⟩
  | 123 => ⟨S1x4x256, .f32⟩
  | 124 => ⟨S4x256, .f32⟩
  | 125 => ⟨S_, .i32⟩
  | 126 => ⟨S_, .i32⟩
  | 127 => ⟨S1x4x256, .f32⟩
  | _ => ⟨S4x256x256, .f32⟩

abbrev hbmTy0_1 (i : Nat) : BufTy := match i % 128 with
  | 0 => ⟨S4x256, .f32⟩
  | 1 => ⟨S_, .i32⟩
  | 2 => ⟨S1x4, .f32⟩
  | 3 => ⟨S4, .f32⟩
  | 4 => ⟨S_, .i32⟩
  | 5 => ⟨S_, .i32⟩
  | 6 => ⟨S1x4x256, .f32⟩
  | 7 => ⟨S4x256, .f32⟩
  | 8 => ⟨S_, .i32⟩
  | 9 => ⟨S_, .i32⟩
  | 10 => ⟨S1x4x256, .f32⟩
  | 11 => ⟨S4x256, .f32⟩
  | 12 => ⟨S_, .i32⟩
  | 13 => ⟨S_, .i32⟩
  | 14 => ⟨S1x4x256, .f32⟩
  | 15 => ⟨S4x256, .f32⟩
  | 16 => ⟨S1, .f32⟩
  | 17 => ⟨S_, .f32⟩
  | 18 => ⟨S4x7x256, .f32⟩
  | 19 => ⟨S4x1x256, .f32⟩
  | 20 => ⟨S4x8x256, .f32⟩
  | 21 => ⟨S4x7x256, .f32⟩
  | 22 => ⟨S4x1x256, .f32⟩
  | 23 => ⟨S4x8x256, .f32⟩
  | 24 => ⟨S4x7, .f32⟩
  | 25 => ⟨S4x1, .f32⟩
  | 26 => ⟨S4x8, .f32⟩
  | 27 => ⟨S4x8x256, .f32⟩
  | 28 => ⟨S4x8x256, .f32⟩
  | 29 => ⟨S4x8x1, .f32⟩
  | 30 => ⟨S4x8x256, .f32⟩
  | 31 => ⟨S4x8x256, .f32⟩
  | 32 => ⟨S4x256x256, .f32⟩
  | 33 => ⟨S4x256x256, .f32⟩
  | 34 => ⟨S4x256x256, .f32⟩
  | 35 => ⟨S4x256x1, .f32⟩
  | 36 => ⟨S4x256x256, .f32⟩
  | 37 => ⟨S4x256x256, .f32⟩
  | 38 => ⟨S4x256x256, .f32⟩
  | 39 => ⟨S4x256x256, .f32⟩
  | 40 => ⟨S_, .f32⟩
  | 41 => ⟨S4, .f32⟩
  | 42 => ⟨S4x1x1, .f32⟩
  | 43 => ⟨S4x1x1, .f32⟩
  | 44 => ⟨S_, .f32⟩
  | 45 => ⟨S4x1x1, .f32⟩
  | 46 => ⟨S4x1x1, .f32⟩
  | 47 => ⟨S4x256x256, .f32⟩
  | 48 => ⟨S4x256x256, .f32⟩
  | 49 => ⟨S_, .f32⟩
  | 50 => ⟨S4x256x256, .f32⟩
  | 51 => ⟨S4x256x256, .f32⟩
  | 52 => ⟨S4x256x256, .f32⟩
  | 53 => ⟨S4x256x256, .f32⟩
  | 54 => ⟨S_, .f32⟩
  | 55 => ⟨S4x256x256, .f32⟩
  | 56 => ⟨S4x256x256, .f32⟩
  | 57 => ⟨S4x256x256, .f32⟩
  | 58 => ⟨S4x256x1, .f32⟩
  | 59 => ⟨S4x256x256, .f32⟩
  | 60 => ⟨S4x256x256, .f32⟩
  | 61 => ⟨S4x256x1, .f32⟩
  | 62 => ⟨S4x256x256, .f32⟩
  | 63 => ⟨S4x256x256, .f32⟩
  | 64 => ⟨S4x256x256, .f32⟩
  | 65 => ⟨S4x256, .f32⟩
  | 66 => ⟨S1x4x256, .f32⟩
  | 67 => ⟨S_, .i32⟩
  | 68 => ⟨S_, .i32⟩
  | 69 => ⟨S256x4x256, .f32⟩
  | 70 => ⟨S_, .i32⟩
  | 71 => ⟨S_, .i32⟩
  | 72 => ⟨S4x256x256, .f32⟩
  | 73 => ⟨S256x256, .f32⟩
  | 74 => ⟨S4x256x256, .f32⟩
  | 75 => ⟨S1x1x256, .f32⟩
  | 76 => ⟨S4x256x256, .f32⟩
  | 77 => ⟨S4x256x256, .f32⟩
  | _ => ⟨S4x256x256, .f32⟩

abbrev hbmTy (i : Nat) : BufTy := match i / 128 with
  | 0 => hbmTy0_0 i
  | 1 => hbmTy0_1 i
  | _ => ⟨S4x256x256, .f32⟩

abbrev bufTy : (tb : Table) → Fin (tcTables nBuf tb) → BufTy
  | .hbm, ⟨i, _⟩ => hbmTy i
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c : Ref sig .tc := ⟨.hbm, 83, rfl⟩
abbrev main_v58 : Ref sig .tc := ⟨.hbm, 84, rfl⟩
abbrev main_v59 : Ref sig .tc := ⟨.hbm, 85, rfl⟩
abbrev main_c_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_c_13 : Ref sig .tc := ⟨.hbm, 104, rfl⟩
abbrev main_v73_0 : Ref sig .tc := ⟨.hbm, 105, rfl⟩
abbrev main_v73_1 : Ref sig .tc := ⟨.hbm, 106, rfl⟩
abbrev main_v73_2 : Ref sig .tc := ⟨.hbm, 107, rfl⟩
abbrev main_v73_3 : Ref sig .tc := ⟨.hbm, 108, rfl⟩
abbrev main_v73_4 : Ref sig .tc := ⟨.hbm, 109, rfl⟩
abbrev main_v73_5 : Ref sig .tc := ⟨.hbm, 110, rfl⟩
abbrev main_v73_6 : Ref sig .tc := ⟨.hbm, 111, rfl⟩
abbrev main_v73_7 : Ref sig .tc := ⟨.hbm, 112, rfl⟩
abbrev main_v73_8 : Ref sig .tc := ⟨.hbm, 113, rfl⟩
abbrev main_v73_9 : Ref sig .tc := ⟨.hbm, 114, rfl⟩
abbrev main_v73_10 : Ref sig .tc := ⟨.hbm, 115, rfl⟩
abbrev main_v73_11 : Ref sig .tc := ⟨.hbm, 116, rfl⟩
abbrev main_v73_12 : Ref sig .tc := ⟨.hbm, 117, rfl⟩
abbrev main_v73_13 : Ref sig .tc := ⟨.hbm, 118, rfl⟩
abbrev main_while0c_c_27 : Ref sig .tc := ⟨.hbm, 119, rfl⟩
abbrev main_while0c_v80 : Ref sig .tc := ⟨.hbm, 120, rfl⟩
abbrev main_while0b_call0_c : Ref sig .tc := ⟨.hbm, 121, rfl⟩
abbrev main_while0b_call0_c_0 : Ref sig .tc := ⟨.hbm, 122, rfl⟩
abbrev main_while0b_call0_v0 : Ref sig .tc := ⟨.hbm, 123, rfl⟩
abbrev main_while0b_v80 : Ref sig .tc := ⟨.hbm, 124, rfl⟩
abbrev main_while0b_call1_c : Ref sig .tc := ⟨.hbm, 125, rfl⟩
abbrev main_while0b_call1_c_0 : Ref sig .tc := ⟨.hbm, 126, rfl⟩
abbrev main_while0b_call1_v0 : Ref sig .tc := ⟨.hbm, 127, rfl⟩
abbrev main_while0b_v81 : Ref sig .tc := ⟨.hbm, 128, rfl⟩
abbrev main_while0b_call2_c : Ref sig .tc := ⟨.hbm, 129, rfl⟩
abbrev main_while0b_call2_v0 : Ref sig .tc := ⟨.hbm, 130, rfl⟩
abbrev main_while0b_v82 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_v0 : Ref sig .tc := ⟨.hbm, 134, rfl⟩
abbrev main_while0b_v83 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_call4_v0 : Ref sig .tc := ⟨.hbm, 138, rfl⟩
abbrev main_while0b_v84 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_v0 : Ref sig .tc := ⟨.hbm, 142, rfl⟩
abbrev main_while0b_v85 : Ref sig .tc := ⟨.hbm, 143, rfl⟩
abbrev main_while0b_call6_v0 : Ref sig .tc := ⟨.hbm, 144, rfl⟩
abbrev main_while0b_v86 : Ref sig .tc := ⟨.hbm, 145, rfl⟩
abbrev main_while0b_v87 : Ref sig .tc := ⟨.hbm, 146, rfl⟩
abbrev main_while0b_v88 : Ref sig .tc := ⟨.hbm, 147, rfl⟩
abbrev main_while0b_v89 : Ref sig .tc := ⟨.hbm, 148, rfl⟩
abbrev main_while0b_v90 : Ref sig .tc := ⟨.hbm, 149, rfl⟩
abbrev main_while0b_v91 : Ref sig .tc := ⟨.hbm, 150, rfl⟩
abbrev main_while0b_v92 : Ref sig .tc := ⟨.hbm, 151, rfl⟩
abbrev main_while0b_v93 : Ref sig .tc := ⟨.hbm, 152, rfl⟩
abbrev main_while0b_v94 : Ref sig .tc := ⟨.hbm, 153, rfl⟩
abbrev main_while0b_v95 : Ref sig .tc := ⟨.hbm, 154, rfl⟩
abbrev main_while0b_v96 : Ref sig .tc := ⟨.hbm, 155, rfl⟩
abbrev main_while0b_v97 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_cst_27 : Ref sig .tc := ⟨.hbm, 168, rfl⟩
abbrev main_while0b_v109 : Ref sig .tc := ⟨.hbm, 169, rfl⟩
abbrev main_while0b_v110 : Ref sig .tc := ⟨.hbm, 170, rfl⟩
abbrev main_while0b_v111 : Ref sig .tc := ⟨.hbm, 171, rfl⟩
abbrev main_while0b_cst_28 : Ref sig .tc := ⟨.hbm, 172, rfl⟩
abbrev main_while0b_v112 : Ref sig .tc := ⟨.hbm, 173, rfl⟩
abbrev main_while0b_v113 : Ref sig .tc := ⟨.hbm, 174, rfl⟩
abbrev main_while0b_v114 : Ref sig .tc := ⟨.hbm, 175, rfl⟩
abbrev main_while0b_v115 : Ref sig .tc := ⟨.hbm, 176, rfl⟩
abbrev main_while0b_cst_29 : Ref sig .tc := ⟨.hbm, 177, rfl⟩
abbrev main_while0b_v116 : Ref sig .tc := ⟨.hbm, 178, rfl⟩
abbrev main_while0b_v117 : Ref sig .tc := ⟨.hbm, 179, rfl⟩
abbrev main_while0b_v118 : Ref sig .tc := ⟨.hbm, 180, rfl⟩
abbrev main_while0b_v119 : Ref sig .tc := ⟨.hbm, 181, rfl⟩
abbrev main_while0b_cst_30 : Ref sig .tc := ⟨.hbm, 182, rfl⟩
abbrev main_while0b_v120 : Ref sig .tc := ⟨.hbm, 183, rfl⟩
abbrev main_while0b_v121 : Ref sig .tc := ⟨.hbm, 184, rfl⟩
abbrev main_while0b_v122 : Ref sig .tc := ⟨.hbm, 185, rfl⟩
abbrev main_while0b_v123 : Ref sig .tc := ⟨.hbm, 186, rfl⟩
abbrev main_while0b_v124 : Ref sig .tc := ⟨.hbm, 187, rfl⟩
abbrev main_while0b_v125 : Ref sig .tc := ⟨.hbm, 188, rfl⟩
abbrev main_while0b_v126 : Ref sig .tc := ⟨.hbm, 189, rfl⟩
abbrev main_while0b_v127 : Ref sig .tc := ⟨.hbm, 190, rfl⟩
abbrev main_while0b_v128 : Ref sig .tc := ⟨.hbm, 191, rfl⟩
abbrev main_while0b_v129 : Ref sig .tc := ⟨.hbm, 192, rfl⟩
abbrev main_while0b_v130 : Ref sig .tc := ⟨.hbm, 193, rfl⟩
abbrev main_while0b_call7_v0 : Ref sig .tc := ⟨.hbm, 194, rfl⟩
abbrev main_while0b_call7_c : Ref sig .tc := ⟨.hbm, 195, rfl⟩
abbrev main_while0b_call7_c_0 : Ref sig .tc := ⟨.hbm, 196, rfl⟩
abbrev main_while0b_v131 : Ref sig .tc := ⟨.hbm, 197, rfl⟩
abbrev main_while0b_c_31 : Ref sig .tc := ⟨.hbm, 198, rfl⟩
abbrev main_while0b_v132 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_v77 : Ref sig .tc := ⟨.hbm, 203, rfl⟩
abbrev main_v78 : Ref sig .tc := ⟨.hbm, 204, rfl⟩
abbrev main_v79 : Ref sig .tc := ⟨.hbm, 205, rfl⟩

abbrev nD : Nat := 1
abbrev τ : Topo := Topo.v7x

variable {F : FTy → Type} [FloatOps F]

abbrev main_while0_count : Scf.Loop 32 := ⟨0#32, 256#32, 1#32⟩
-- ==== Proof.IdealBody.lean ====
/-
The idealized kernel body run once at symbolic operands: what one grid point leaves in every buffer it writes.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type :=
  Buf (Elt F) (M.view.loc (c : Thread nD τ))
/-- A memref's buffer on core `c`, held whole at the contents `f`. -/
abbrev pt (c : Dev nD) {sp : Space} {S : Shape} {e : EltTy} (M : Memref sig .tc sp S e) (f : Bf (F := F) c M) : sProp 𝕄 :=
  M.view.loc (c : Thread nD τ) ↦{fullShare} f

set_option sl_exec.resultNames true
/-- What one grid point leaves in the output block, the two state blocks and the two ring buffers, together with the
    proof that the body runs from these buffers held whole to these contents: inputs at `f1 … f16`, state blocks and
    rings at `f18 … f21`, the output block at anything. -/
noncomputable def kernelRun (c : Dev nD) (i : grid0.Coords)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (f18 : Bf (F := F) c M18) (f19 : Bf (F := F) c M19) (f20 : Bf (F := F) c M20) (f21 : Bf (F := F) c M21) :
    { W : Bf (F := F) c M17 × Bf (F := F) c M18 × Bf (F := F) c M19 × Bf (F := F) c M20 × Bf (F := F) c M21 //
      ∀ (f17 : Bf (F := F) c M17) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
                ∗ pt c M17 W.1 ∗ pt c M18 W.2.1 ∗ pt c M19 W.2.2.1 ∗ pt c M20 W.2.2.2.1 ∗ pt c M21 W.2.2.2.2) -∗ Q ⟨⟩))
        ⊢ wp frame (wpE (defs₀ (F := F)) Variants.none c none) E
            (cc0_atlas_memory i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q } := by
  refine ⟨⟨?_, ?_, ?_, ?_, ?_⟩, fun f17 E Q => ?run⟩
  case run =>
    iintro ⟨H1, H2, H3, H4, H5, H6, H7, H8, H9, H10, H11, H12, H13, H14, H15, H16, H17, H18, H19, H20, H21, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Body

end
-- ==== Proof.IdealFrame.lean ====
/-
The frame of the idealized kernel: it runs to an end and leaves its arguments as launched.
-/
module

public import proofs.«01_k».proof.Proof.IdealBody

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The run over what the memrefs read -/

/-- A whole memref owned at `X` is its buffer held at the contents that read `X`. -/
theorem pt_of_owns (c : Dev nD) {sp : Space} {S : Shape} {e : EltTy} (M : Memref sig .tc sp S e) (h : M.IsWhole) {X : Vec F S e} :
    (owns (c : Thread nD τ) M fullShare X : sProp 𝕄) ⊢ pt c M (h.unread X) := by
  unfold owns pt
  rw [show M.view.set = Finset.univ from h.set_eq_univ]
  iintro ⟨%f, %hf, H⟩
  obtain rfl := h.eq_unread hf
  iexact H

/-- A whole buffer held at contents that read `X` is the memref owned at `X`. -/
theorem owns_of_pt (c : Dev nD) {sp : Space} {S : Shape} {e : EltTy} (M : Memref sig .tc sp S e) (h : M.IsWhole)
    {f : Bf (F := F) c M} {X : Vec F S e} (hX : M.view.read (Elt F) f = X) :
    pt c M f ⊢ (owns (c : Thread nD τ) M fullShare X : sProp 𝕄) := by
  unfold owns pt
  rw [show M.view.set = Finset.univ from h.set_eq_univ]
  iintro H
  iexists _; isplitr; · ipureintro; exact hX
  iexact H

/-- The body's run restated over what its memrefs read: inputs are left as they are, and each of the five written
    buffers is left at what `kernelRun` names for it. -/
theorem run_owns (c : Dev nD) (i : grid0.Coords)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (X1 : Vec F S4x16x256 .f32) (X2 : Vec F S4x16x256 .f32) (X3 : Vec F S4x16x256 .f32) (X4 : Vec F S4x256x256 .f32) (X5 : Vec F S4x256x256 .f32) (X6 : Vec F S2x256 .f32) (X7 : Vec F S256x256 .bf16) (X8 : Vec F S1x256 .f32) (X9 : Vec F S256x256 .bf16) (X10 : Vec F S1x256 .f32) (X11 : Vec F S256x256 .bf16) (X12 : Vec F S1x256 .f32) (X13 : Vec F S256x1 .bf16) (X14 : Vec F S1x1 .f32) (X15 : Vec F S256x256 .bf16) (X16 : Vec F S1x256 .f32)
    (X17 : Vec F S4x16x256 .f32) (X18 : Vec F S4x256x256 .f32) (X19 : Vec F S4x256x256 .f32) (X20 : Vec F S4x8x256 .bf16) (X21 : Vec F S4x8x256 .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19 ∗ owns (c : Thread nD τ) M20 fullShare X20 ∗ owns (c : Thread nD τ) M21 fullShare X21
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16
            ∗ owns (c : Thread nD τ) M17 fullShare (M17.view.read (Elt F) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).1.1) ∗ owns (c : Thread nD τ) M18 fullShare (M18.view.read (Elt F) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).1.2.1) ∗ owns (c : Thread nD τ) M19 fullShare (M19.view.read (Elt F) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).1.2.2.1) ∗ owns (c : Thread nD τ) M20 fullShare (M20.view.read (Elt F) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).1.2.2.2.1) ∗ owns (c : Thread nD τ) M21 fullShare (M21.view.read (Elt F) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).1.2.2.2.2)) -∗ Q ⟨⟩))
      ⊢ wp frame (wpE (defs₀ (F := F)) Variants.none c none) E (cc0_atlas_memory i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  iintro ⟨H1, H2, H3, H4, H5, H6, H7, H8, H9, H10, H11, H12, H13, H14, H15, H16, H17, H18, H19, H20, H21, Hk⟩
  iapply ((kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h18.unread X18) (h19.unread X19) (h20.unread X20) (h21.unread X21)).2 (h17.unread X17) E Q)
  isplitl [H1]; · iapply pt_of_owns c M1 h1; iexact H1
  isplitl [H2]; · iapply pt_of_owns c M2 h2; iexact H2
  isplitl [H3]; · iapply pt_of_owns c M3 h3; iexact H3
  isplitl [H4]; · iapply pt_of_owns c M4 h4; iexact H4
  isplitl [H5]; · iapply pt_of_owns c M5 h5; iexact H5
  isplitl [H6]; · iapply pt_of_owns c M6 h6; iexact H6
  isplitl [H7]; · iapply pt_of_owns c M7 h7; iexact H7
  isplitl [H8]; · iapply pt_of_owns c M8 h8; iexact H8
  isplitl [H9]; · iapply pt_of_owns c M9 h9; iexact H9
  isplitl [H10]; · iapply pt_of_owns c M10 h10; iexact H10
  isplitl [H11]; · iapply pt_of_owns c M11 h11; iexact H11
  isplitl [H12]; · iapply pt_of_owns c M12 h12; iexact H12
  isplitl [H13]; · iapply pt_of_owns c M13 h13; iexact H13
  isplitl [H14]; · iapply pt_of_owns c M14 h14; iexact H14
  isplitl [H15]; · iapply pt_of_owns c M15 h15; iexact H15
  isplitl [H16]; · iapply pt_of_owns c M16 h16; iexact H16
  isplitl [H17]; · iapply pt_of_owns c M17 h17; iexact H17
  isplitl [H18]; · iapply pt_of_owns c M18 h18; iexact H18
  isplitl [H19]; · iapply pt_of_owns c M19 h19; iexact H19
  isplitl [H20]; · iapply pt_of_owns c M20 h20; iexact H20
  isplitl [H21]; · iapply pt_of_owns c M21 h21; iexact H21
  iintro ⟨H1, H2, H3, H4, H5, H6, H7, H8, H9, H10, H11, H12, H13, H14, H15, H16, H17, H18, H19, H20, H21⟩
  iapply Hk
  isplitl [H1]; · iapply owns_of_pt c M1 h1 (h1.read_unread _); iexact H1
  isplitl [H2]; · iapply owns_of_pt c M2 h2 (h2.read_unread _); iexact H2
  isplitl [H3]; · iapply owns_of_pt c M3 h3 (h3.read_unread _); iexact H3
  isplitl [H4]; · iapply owns_of_pt c M4 h4 (h4.read_unread _); iexact H4
  isplitl [H5]; · iapply owns_of_pt c M5 h5 (h5.read_unread _); iexact H5
  isplitl [H6]; · iapply owns_of_pt c M6 h6 (h6.read_unread _); iexact H6
  isplitl [H7]; · iapply owns_of_pt c M7 h7 (h7.read_unread _); iexact H7
  isplitl [H8]; · iapply owns_of_pt c M8 h8 (h8.read_unread _); iexact H8
  isplitl [H9]; · iapply owns_of_pt c M9 h9 (h9.read_unread _); iexact H9
  isplitl [H10]; · iapply owns_of_pt c M10 h10 (h10.read_unread _); iexact H10
  isplitl [H11]; · iapply owns_of_pt c M11 h11 (h11.read_unread _); iexact H11
  isplitl [H12]; · iapply owns_of_pt c M12 h12 (h12.read_unread _); iexact H12
  isplitl [H13]; · iapply owns_of_pt c M13 h13 (h13.read_unread _); iexact H13
  isplitl [H14]; · iapply owns_of_pt c M14 h14 (h14.read_unread _); iexact H14
  isplitl [H15]; · iapply owns_of_pt c M15 h15 (h15.read_unread _); iexact H15
  isplitl [H16]; · iapply owns_of_pt c M16 h16 (h16.read_unread _); iexact H16
  isplitl [H17]; · iapply owns_of_pt c M17 h17 rfl; iexact H17
  isplitl [H18]; · iapply owns_of_pt c M18 h18 rfl; iexact H18
  isplitl [H19]; · iapply owns_of_pt c M19 h19 rfl; iexact H19
  isplitl [H20]; · iapply owns_of_pt c M20 h20 rfl; iexact H20
  iapply owns_of_pt c M21 h21 rfl; iexact H21

variable (m : (ℓ : Loc nD τ sig) → Buf (Elt F) ℓ) (ρ : Dev nD → PrngReg)

/-! ## The frame's proof data: inputs keep their blocks, nothing is said of the outputs -/

/-- Every array as the region finds it; each input's buffer keeps its block; of the three outputs nothing is read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨n + 19, h⟩ => absurd h (Nat.not_lt.mpr (Nat.le_add_left 19 n))
  Φ _ := Pipeline.ΦA spec0 c
  q _ := fullShare
  owed _ := 0

/-- The three outputs are forgotten. -/
def fgt (w : Fin cfg0.W) : Bool := decide (16 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The region's invariant: the two ring buffers at some contents and the generator register at some state. -/
theorem PhiA0_eq (c : Dev nD) :
    (Pipeline.ΦA spec0 c : sProp 𝕄)
      = iprop(iprop((∃ X, owns (c : Thread nD τ) (Memref.whole cc0_scratch0) fullShare X) ∗ (∃ X, owns (c : Thread nD τ) (Memref.whole cc0_scratch1) fullShare X))
          ∗ (∃ r, prngReg c r)) := by
  unfold Pipeline.ΦA; rw [scopedRest0_eq]; simp only [owns_whole]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ X, owns (c : Thread nD τ) (st0_16 t) fullShare X) ∗ (∃ X, owns (c : Thread nD τ) (st0_17 t) fullShare X) ∗ (∃ X, owns (c : Thread nD τ) (st0_18 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ (∃ X, owns (c : Thread nD τ) (st0_16 t) fullShare X) ∗ (∃ X, owns (c : Thread nD τ) (st0_17 t) fullShare X) ∗ (∃ X, owns (c : Thread nD τ) (st0_18 t) fullShare X))

/-- The body at any point: the run at the blocks the inputs hold, at whatever the outputs and rings hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14, before0_15, after0_15]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨⟨%X20, H20⟩, ⟨%X21, H21⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%X16, H16⟩, ⟨%X17, H17⟩, ⟨%X18, H18⟩⟩
  iapply (run_owns c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) X16 X17 X18 X20 X21 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H20]; · iexact H20
  isplitl [H21]; · iexact H21
  iintro ⟨H0, H1, H2, H3, H4, H5, H6, H7, H8, H9, H10, H11, H12, H13, H14, H15, H16, H17, H18, H20, H21⟩
  isplitl [H20 H21 Hg]
  · isplitl [H20 H21]
    · isplitl [H20]
      · iexists _; iexact H20
      iexists _; iexact H21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iexists _; iexact H18

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers the lines after the region write. -/
def T : Finset (Ref sig .tc) := {main_v0_1, main_v0_2}

/-- The lines after the region write `T` only. -/
theorem tail_writes : ∀ ops ∈ ([hostOps1] : List (List (HloOp τ sig (Elt F)))), ∀ op ∈ ops, ∀ b : Ref sig .tc,
    Proc.devRef .tc b ∈ op.writes → b ∈ T := by
  intro ops hops op hop b hb
  simp only [List.mem_singleton] at hops
  subst hops
  simp only [hostOps1, List.mem_cons, List.not_mem_nil, or_false] at hop
  rcases hop with rfl | rfl <;>
  · simp only [StableHlo.unary_writes, Finset.mem_singleton] at hb
    have := Proc.devRef_injective _ hb
    subst this
    decide

set_option backward.isDefEq.respectTransparency.types false in
set_option maxHeartbeats 800000 in
/-- The launch, and every semaphore counter at zero at every final state. -/
theorem run_main_quiescent : θ_run defs (onTc (τ := τ) (main (F := F))) (s₀ m ρ) (fun r =>
    Pipeline.RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl) (hQ' := fun _ h => h)

/-- Reading the run's post at the arguments: each is as launched. -/
theorem args_of (r : PUnit × MemSt nD τ sig (Elt F))
    (h : Pipeline.RDat.FramePostR cfg0 (fun c => (dats m 0 c).toRForget fgt) T (fun c b => V0 m c (Proc.devRef .tc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(h.arr_in c 0 rfl).trans (V_main_arg0 m c),
      (h.arr_in c 1 rfl).trans (V_main_arg1 m c),
      (h.arr_in c 2 rfl).trans (V_main_arg2 m c),
      ((h c).2 main_arg3 (by decide)).trans (V_main_arg3 m c),
      ((h c).2 main_arg4 (by decide)).trans (V_main_arg4 m c),
      (h.arr_in c 5 rfl).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      ((h c).2 main_arg12 (by decide)).trans (V_main_arg12 m c),
      ((h c).2 main_arg13 (by decide)).trans (V_main_arg13 m c),
      ((h c).2 main_arg14 (by decide)).trans (V_main_arg14 m c),
      ((h c).2 main_arg15 (by decide)).trans (V_main_arg15 m c)⟩

/-- The frame: every execution ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => args_of m r h.1 c, h.2⟩) (run_main_quiescent m ρ)

end Cert.KernelIdeal.Body

end
-- ==== Proof.Frames.lean ====
/-
The claims beside the value claim: the reference's frame, and the kernel's named constants.
-/
module

public import proofs.«01_k».proof.Defs
public import proofs.«01_k».proof.Proof.Gen.ReferenceIdeal.Run
public import proofs.«01_k».proof.Proof.KernelFrame
public import proofs.«01_k».proof.Proof.IdealFrame
public import Idealize.ShloMosaic.Lib.Quiescent

@[expose] public section

noncomputable section

namespace Cert.Proof

open Idealize.ShloMosaic Idealize.SL.Sem

/-- The kernel's frame. -/
theorem frame_kernel : @Cert.quiescent_Kernel Cert.Kernel.Gen.facts := fun m g _ => Cert.Kernel.Body.frame m g

/-- The idealized kernel's frame. -/
theorem frame_ideal : @Cert.quiescent_KernelIdeal Cert.KernelIdeal.Gen.facts := fun m g _ => Cert.KernelIdeal.Body.frame m g

/-- The reference's frame: its run leaves the arguments, and the program has no semaphore. -/
theorem frame_reference : @Cert.quiescent_ReferenceIdeal Cert.ReferenceIdeal.Gen.facts := fun m g _ =>
  (θ_run _ _ _).mono (fun r h => ⟨fun c => (h c).2.2.2, sem_eq_zero_of_no_sems (by decide) r.2⟩)
    (Cert.ReferenceIdeal.Value.run (F := Ideal) m g)

/-- Each named constant's value is the reciprocal that its float word rounds. -/
theorem preserves : Cert.preserves_Kernel_KernelIdeal := by
  exact ⟨IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.Ring.lean ====
/-
The two ring buffers of the kernel: four batches of eight slots, one slot overwritten at every step. A list of the stores a
grid point makes is read as the ring's contents after that many pushes.
-/
module

public import Idealize.ShloMosaic.Lib.WritesUnit
public import Idealize.ShloMosaic.Lib.VecWindow
public import Idealize.ShloMosaic.Lib.ValueIdx
public import Idealize.ShloMosaic.Lib.Exec.Geometry
public import Mathlib.Tactic.FinCases

@[expose] public section

namespace Cert.Atlas

open Idealize.ShloMosaic Idealize.ShloMosaic.ValueIdx

/-- The ring after `n` pushes of the rows `x 0, x 1, …`, all slots `z` before: push `n` goes to slot `n % 8`. -/
def ring {α : Type} (z : α) (x : ℕ → Fin 256 → α) : ℕ → Fin 8 → Fin 256 → α
  | 0 => fun _ _ => z
  | n + 1 => fun r c => if r.val = n % 8 then x n c else ring z x n r c

/-- One more push. -/
theorem ring_succ {α : Type} (z : α) (x : ℕ → Fin 256 → α) (t j : ℕ) (r : Fin 8) (c : Fin 256) :
    ring z x (t + (j + 1)) r c = if r.val = (t + j) % 8 then x (t + j) c else ring z x (t + j) r c := rfl

/-- How many of the first `n` pushes, the four batches taking turns, are batch `b`'s. -/
def count (b n : ℕ) : ℕ := (n + 3 - b) / 4

theorem count_at (b j : ℕ) (hb : b < 4) : count b (4 * j + b) = j := by unfold count; omega
theorem count_push (b j : ℕ) (hb : b < 4) : count b (4 * j + b + 1) = j + 1 := by unfold count; omega
theorem count_other (b b' j : ℕ) (hb : b < 4) (hb' : b' < 4) (h : b' ≠ b) :
    count b' (4 * j + b + 1) = count b' (4 * j + b) := by unfold count; omega

/-- A slot that fewer pushes than its number have reached is as it was, at a start that is a multiple of eight. -/
theorem ring_untouched {α : Type} (z : α) (x : ℕ → Fin 256 → α) (t : ℕ) (j : ℕ) (r : Fin 8) (c : Fin 256) (h : j ≤ r.val) :
    ring z x (16 * t + j) r c = ring z x (16 * t) r c := by
  induction j with
  | zero => rfl
  | succ j ih =>
    rw [← ih (by omega)]
    rw [ring_succ, if_neg (by omega)]

section Stores

variable {sig : RefSig} {κ : Kind} {sp : Space} {e : EltTy} {Val : EltTy → Type}
variable (v : View sig κ sp (⟨3, ![4, 8, 256]⟩ : Shape) e) (base : v.ty.Contents Val)
variable (z : Val e) (x : Fin 4 → ℕ → Fin 256 → Val e) (t : ℕ) (cov : ℕ → ℕ)

/-- The stores `L` leave the ring of `n` pushes after time `16 t`, and the slots below `cov` no longer depend on what the
    buffer held before. -/
structure Holds (L : List (View.Piece Val (⟨3, ![4, 8, 256]⟩ : Shape) e)) (n : ℕ) : Prop where
  val : ∀ (b : Fin 4) (r : Fin 8) (c : Fin 256),
    v.read Val (v.writes Val base L) (ix3 b r c) = ring z (x b) (16 * t + count b n) r c
  indep : ∀ f (b : Fin 4) (r : Fin 8) (c : Fin 256), r.val < cov (count b n) →
    v.read Val (v.writes Val f L) (ix3 b r c) = v.read Val (v.writes Val base L) (ix3 b r c)

/-- `Holds` of the list and of each of its tails. -/
def AllHolds (L : List (View.Piece Val (⟨3, ![4, 8, 256]⟩ : Shape) e)) (n : ℕ) : Prop :=
  ∀ k, k ≤ n → Holds v base z x t cov (L.drop k) (n - k)

variable {v base z x t cov}

/-- A list every tail of which holds, and a piece that keeps the statement. -/
theorem AllHolds.cons {L : List (View.Piece Val (⟨3, ![4, 8, 256]⟩ : Shape) e)} {n : ℕ} (h : AllHolds v base z x t cov L n)
    (p : View.Piece Val (⟨3, ![4, 8, 256]⟩ : Shape) e) (hp : Holds v base z x t cov (p :: L) (n + 1)) :
    AllHolds v base z x t cov (p :: L) (n + 1) := by
  intro k hk
  match k with
  | 0 => exact hp
  | k + 1 =>
    have := h k (by omega)
    simpa using this

/-- Before the first push. -/
theorem AllHolds.nil (h : ∀ (b : Fin 4) (r : Fin 8) (c : Fin 256), v.read Val base (ix3 b r c) = ring z (x b) (16 * t) r c)
    (hc : cov 0 = 0) : AllHolds v base z x t cov [] 0 := by
  intro k hk
  obtain rfl : k = 0 := by omega
  have hb : ∀ b : Fin 4, count b 0 = 0 := fun b => by unfold count; omega
  refine ⟨fun b r c => ?_, fun f b r c hr => ?_⟩
  · rw [hb]; exact h b r c
  · rw [hb, hc] at hr; omega

/-- One more push, by a store of a single row. -/
theorem AllHolds.row {L : List (View.Piece Val (⟨3, ![4, 8, 256]⟩ : Shape) e)} {n : ℕ}
    (h : AllHolds v base z x t (fun p => p) L n) (b : Fin 4) (j o : ℕ) (hn : n = 4 * j + b.val) (ho : o = j % 8)
    (inb : ∀ a : Fin 3, (![b.val, o, 0] : Fin 3 → ℕ) a + (![1, 1, 256] : Fin 3 → ℕ) a ≤ (![4, 8, 256] : Fin 3 → ℕ) a)
    (w : (⟨3, ![1, 1, 256]⟩ : Shape).Idx → Val e) (hw : ∀ c : Fin 256, w (ix3 0 0 c) = x b (16 * t + j) c) :
    AllHolds v base z x t (fun p => p)
      ((⟨Rect.unit (s := (⟨3, ![4, 8, 256]⟩ : Shape)) ![b.val, o, 0] ![1, 1, 256] inb, w⟩ :
        View.Piece Val (⟨3, ![4, 8, 256]⟩ : Shape) e) :: L) (n + 1) := by
  have h0 : Holds v base z x t (fun p => p) L n := h 0 (Nat.zero_le _)
  have hin : ∀ f (c : Fin 256) (r : Fin 8), r.val = o →
      v.read Val (v.writes Val f ((⟨Rect.unit (s := (⟨3, ![4, 8, 256]⟩ : Shape)) ![b.val, o, 0] ![1, 1, 256] inb, w⟩ :
        View.Piece Val (⟨3, ![4, 8, 256]⟩ : Shape) e) :: L)) (ix3 b r c) = x b (16 * t + j) c := fun f c r hr => by
    refine (View.read_writes_cons_unit_of_mem v f inb w L (ix3 b r c) (ix3 (0 : Fin 1) (0 : Fin 1) c) rfl ?_).trans (hw c)
    intro a
    match a with
    | ⟨0, _⟩ => rfl
    | ⟨1, _⟩ => exact hr
    | ⟨2, _⟩ => exact (Nat.zero_add _).symm
  have hout : ∀ f (b' : Fin 4) (r : Fin 8) (c : Fin 256), (b' ≠ b ∨ r.val ≠ o) →
      v.read Val (v.writes Val f ((⟨Rect.unit (s := (⟨3, ![4, 8, 256]⟩ : Shape)) ![b.val, o, 0] ![1, 1, 256] inb, w⟩ :
        View.Piece Val (⟨3, ![4, 8, 256]⟩ : Shape) e) :: L)) (ix3 b' r c) = v.read Val (v.writes Val f L) (ix3 b' r c) := by
    intro f b' r c hor
    rcases hor with hb | hr
    · refine View.read_writes_cons_unit_of_not_mem v f inb w L _ rfl (0 : Fin 3) ?_
      have : b'.val ≠ b.val := fun h => hb (Fin.ext h)
      show b'.val < b.val ∨ b.val + 1 ≤ b'.val
      omega
    · refine View.read_writes_cons_unit_of_not_mem v f inb w L _ rfl (1 : Fin 3) ?_
      show r.val < o ∨ o + 1 ≤ r.val
      omega
  subst hn
  refine h.cons _ ⟨fun b' r c => ?_, fun f b' r c hr => ?_⟩
  · by_cases hb : b' = b
    · subst hb
      rw [count_push _ _ b'.isLt, ring_succ]
      by_cases hr : r.val = o
      · rw [hin _ _ _ hr, if_pos (by omega)]
      · rw [hout _ _ _ _ (.inr hr), if_neg (by omega), h0.val, count_at _ _ b'.isLt]
    · rw [hout _ _ _ _ (.inl hb), h0.val, count_other _ _ _ b.isLt b'.isLt fun h => hb (Fin.ext h)]
  · by_cases hb : b' = b
    · subst hb
      by_cases hro : r.val = o
      · rw [hin _ _ _ hro, hin _ _ _ hro]
      · rw [hout _ _ _ _ (.inr hro), hout _ _ _ _ (.inr hro)]
        refine h0.indep f b' r c ?_
        rw [count_push _ _ b'.isLt] at hr
        rw [count_at _ _ b'.isLt]
        have := r.isLt
        show r.val < j
        have hr' : r.val < j + 1 := hr
        omega
    · rw [hout _ _ _ _ (.inl hb), hout _ _ _ _ (.inl hb)]
      refine h0.indep f b' r c ?_
      rwa [count_other _ _ _ b.isLt b'.isLt fun h => hb (Fin.ext h)] at hr

/-- How many slots of a batch the stores of row pairs cover after `p` pushes. -/
def pairs (p : ℕ) : ℕ := 2 * ((p + 1) / 2)

/-- One more push, by a store of the pair of rows that holds it, the other row of the pair as it was. -/
theorem AllHolds.pair {L : List (View.Piece Val (⟨3, ![4, 8, 256]⟩ : Shape) e)} {n : ℕ}
    (h : AllHolds v base z x t pairs L n) (b : Fin 4) (j o s : ℕ) (hn : n = 4 * j + b.val) (ho : o = 2 * (j % 8 / 2))
    (hs : s = j % 2)
    (inb : ∀ a : Fin 3, (![b.val, o, 0] : Fin 3 → ℕ) a + (![1, 2, 256] : Fin 3 → ℕ) a ≤ (![4, 8, 256] : Fin 3 → ℕ) a)
    (w : (⟨3, ![1, 1, 256]⟩ : Shape).Idx → Val e) (old : (⟨3, ![1, 2, 256]⟩ : Shape).Idx → Val e)
    (hsl : (⟨3, ![1, 2, 256]⟩ : Shape).Slices ![0, s, 0] (⟨3, ![1, 1, 256]⟩ : Shape))
    (hold : ∀ (s' : Fin 2) (r : Fin 8) (c : Fin 256), s'.val ≠ s → r.val = o + s'.val →
      old (ix3 0 s' c) = v.read Val (v.writes Val base L) (ix3 b r c))
    (hw : ∀ c : Fin 256, w (ix3 0 0 c) = x b (16 * t + j) c) :
    AllHolds v base z x t pairs
      ((⟨Rect.unit (s := (⟨3, ![4, 8, 256]⟩ : Shape)) ![b.val, o, 0] ![1, 2, 256] inb,
          (fun old' : (⟨3, ![1, 2, 256]⟩ : Shape).Idx → Val e => updateSlice old' w ![0, s, 0] hsl) old⟩ :
        View.Piece Val (⟨3, ![4, 8, 256]⟩ : Shape) e) :: L) (n + 1) := by
  have h0 : Holds v base z x t pairs L n := h 0 (Nat.zero_le _)
  set P : View.Piece Val (⟨3, ![4, 8, 256]⟩ : Shape) e :=
    ⟨Rect.unit (s := (⟨3, ![4, 8, 256]⟩ : Shape)) ![b.val, o, 0] ![1, 2, 256] inb,
      (fun old' : (⟨3, ![1, 2, 256]⟩ : Shape).Idx → Val e => updateSlice old' w ![0, s, 0] hsl) old⟩ with hP
  have hmem : ∀ f (s' : Fin 2) (r : Fin 8) (c : Fin 256), r.val = o + s'.val →
      v.read Val (v.writes Val f (P :: L)) (ix3 b r c) = updateSlice old w ![0, s, 0] hsl (ix3 (0 : Fin 1) s' c) := by
    intro f s' r c hr
    refine View.read_writes_cons_unit_of_mem v f inb _ L (ix3 b r c) (ix3 (0 : Fin 1) s' c) rfl ?_
    intro a
    match a with
    | ⟨0, _⟩ => rfl
    | ⟨1, _⟩ => exact hr
    | ⟨2, _⟩ => exact (Nat.zero_add _).symm
  have hnew : ∀ (s' : Fin 2) (c : Fin 256), s'.val = s →
      updateSlice old w ![0, s, 0] hsl (ix3 (0 : Fin 1) s' c) = x b (16 * t + j) c := by
    intro s' c hs'
    rw [← hw c]
    unfold updateSlice
    rw [dif_pos]
    · refine congrArg w (funext fun a => Fin.ext ?_)
      match a with
      | ⟨0, _⟩ => rfl
      | ⟨1, _⟩ => show s'.val - s = 0; omega
      | ⟨2, _⟩ => rfl
    · intro a
      match a with
      | ⟨0, _⟩ => exact ⟨Nat.le_refl 0, Nat.lt_succ_self 0⟩
      | ⟨1, _⟩ => show s ≤ s'.val ∧ s'.val < s + 1; omega
      | ⟨2, _⟩ => show 0 ≤ c.val ∧ c.val < 0 + 256; have := c.isLt; omega
  have hkeep : ∀ (s' : Fin 2) (c : Fin 256), s'.val ≠ s →
      updateSlice old w ![0, s, 0] hsl (ix3 (0 : Fin 1) s' c) = old (ix3 (0 : Fin 1) s' c) := by
    intro s' c hs'
    unfold updateSlice
    rw [dif_neg]
    intro hall
    have h1 : s ≤ s'.val ∧ s'.val < s + 1 := hall (1 : Fin 3)
    omega
  have hout : ∀ f (b' : Fin 4) (r : Fin 8) (c : Fin 256), (b' ≠ b ∨ r.val < o ∨ o + 2 ≤ r.val) →
      v.read Val (v.writes Val f (P :: L)) (ix3 b' r c) = v.read Val (v.writes Val f L) (ix3 b' r c) := by
    intro f b' r c hor
    rcases hor with hb | hr
    · refine View.read_writes_cons_unit_of_not_mem v f inb _ L _ rfl (0 : Fin 3) ?_
      have : b'.val ≠ b.val := fun h => hb (Fin.ext h)
      show b'.val < b.val ∨ b.val + 1 ≤ b'.val
      omega
    · exact View.read_writes_cons_unit_of_not_mem v f inb _ L _ rfl (1 : Fin 3) hr
  subst hn
  refine h.cons P ⟨fun b' r c => ?_, fun f b' r c hr => ?_⟩
  · by_cases hb : b' = b
    · subst hb
      rw [count_push _ _ b'.isLt, ring_succ]
      by_cases hr : o ≤ r.val ∧ r.val < o + 2
      · rw [hmem _ ⟨r.val - o, by omega⟩ r c (by show r.val = o + (r.val - o); omega)]
        by_cases hrs : r.val - o = s
        · rw [hnew _ _ hrs, if_pos (by omega)]
        · rw [hkeep _ _ hrs, if_neg (by omega), hold _ r c hrs (by show r.val = o + (r.val - o); omega), h0.val,
            count_at _ _ b'.isLt]
      · rw [hout _ _ _ _ (.inr (by omega)), if_neg (by omega), h0.val, count_at _ _ b'.isLt]
    · rw [hout _ _ _ _ (.inl hb), h0.val, count_other _ _ _ b.isLt b'.isLt fun h => hb (Fin.ext h)]
  · by_cases hb : b' = b
    · subst hb
      by_cases hro : o ≤ r.val ∧ r.val < o + 2
      · rw [hmem f ⟨r.val - o, by omega⟩ r c (by show r.val = o + (r.val - o); omega),
          hmem base ⟨r.val - o, by omega⟩ r c (by show r.val = o + (r.val - o); omega)]
      · rw [hout _ _ _ _ (.inr (by omega)), hout _ _ _ _ (.inr (by omega))]
        refine h0.indep f b' r c ?_
        rw [count_push _ _ b'.isLt] at hr
        rw [count_at _ _ b'.isLt]
        have := r.isLt
        unfold pairs at hr ⊢
        omega
    · rw [hout _ _ _ _ (.inl hb), hout _ _ _ _ (.inl hb)]
      refine h0.indep f b' r c ?_
      rwa [count_other _ _ _ b.isLt b'.isLt fun h => hb (Fin.ext h)] at hr

/-- The old pair read off the buffer before any store. -/
theorem old_base {L : List (View.Piece Val (⟨3, ![4, 8, 256]⟩ : Shape) e)} {n : ℕ}
    (h : AllHolds v base z x t pairs L n)
    (hbase : ∀ (b : Fin 4) (r : Fin 8) (c : Fin 256), v.read Val base (ix3 b r c) = ring z (x b) (16 * t) r c)
    (b : Fin 4) (j o : ℕ) (hn : n = 4 * j + b.val) (ho : o = j)
    (inb : ∀ a : Fin 3, (![b.val, o, 0] : Fin 3 → ℕ) a + (![1, 2, 256] : Fin 3 → ℕ) a ≤ (![4, 8, 256] : Fin 3 → ℕ) a)
    (s : Fin 2) (r : Fin 8) (c : Fin 256) (hr : r.val = o + s.val) :
    v.readAt Val (Rect.unit (s := (⟨3, ![4, 8, 256]⟩ : Shape)) ![b.val, o, 0] ![1, 2, 256] inb).toLoadRect base
        (ix3 (0 : Fin 1) s c) = v.read Val (v.writes Val base L) (ix3 b r c) := by
  have h0 : Holds v base z x t pairs L n := h 0 (Nat.zero_le _)
  subst hn
  rw [h0.val, count_at _ _ b.isLt, ring_untouched _ _ _ _ _ _ (by omega), ← hbase]
  refine congrArg (v.read Val base) (funext fun a => Fin.ext ?_)
  match a with
  | ⟨0, _⟩ => rfl
  | ⟨1, _⟩ => show o + 1 * s.val = r.val; omega
  | ⟨2, _⟩ => show 0 + 1 * c.val = c.val; omega

/-- The old pair read off the stores before. -/
theorem old_cov [∀ e, Nonempty (Val e)] {L : List (View.Piece Val (⟨3, ![4, 8, 256]⟩ : Shape) e)} {n : ℕ}
    (h : AllHolds v base z x t pairs L n)
    (b : Fin 4) (j o : ℕ) (hn : n = 4 * j + b.val) (ho : o + 2 ≤ pairs j)
    (inb : ∀ a : Fin 3, (![b.val, o, 0] : Fin 3 → ℕ) a + (![1, 2, 256] : Fin 3 → ℕ) a ≤ (![4, 8, 256] : Fin 3 → ℕ) a)
    (s : Fin 2) (r : Fin 8) (c : Fin 256) (hr : r.val = o + s.val) :
    v.readCov L (Rect.unit (s := (⟨3, ![4, 8, 256]⟩ : Shape)) ![b.val, o, 0] ![1, 2, 256] inb).toLoadRect
        (ix3 (0 : Fin 1) s c) = v.read Val (v.writes Val base L) (ix3 b r c) := by
  have h0 : Holds v base z x t pairs L n := h 0 (Nat.zero_le _)
  subst hn
  rw [← h0.indep v.junk b r c (by rw [count_at _ _ b.isLt]; have := s.isLt; omega)]
  refine congrArg (v.read Val (v.writes Val v.junk L)) (funext fun a => Fin.ext ?_)
  match a with
  | ⟨0, _⟩ => rfl
  | ⟨1, _⟩ => show o + 1 * s.val = r.val; omega
  | ⟨2, _⟩ => show 0 + 1 * c.val = c.val; omega

/-- A batch's eight slots read off the stores and what was there before. -/
theorem Holds.slots {L : List (View.Piece Val (⟨3, ![4, 8, 256]⟩ : Shape) e)} {n : ℕ} (h : Holds v base z x t cov L n)
    (b : Fin 4) (inb : ∀ a : Fin 3, (![b.val, 0, 0] : Fin 3 → ℕ) a + (![1, 8, 256] : Fin 3 → ℕ) a ≤ (![4, 8, 256] : Fin 3 → ℕ) a)
    (r : Fin 8) (c : Fin 256) :
    v.readAt Val (Rect.unit (s := (⟨3, ![4, 8, 256]⟩ : Shape)) ![b.val, 0, 0] ![1, 8, 256] inb).toLoadRect
        (v.writes Val base L) (ix3 (0 : Fin 1) r c) = ring z (x b) (16 * t + count b n) r c := by
  rw [← h.val]
  refine congrArg (v.read Val (v.writes Val base L)) (funext fun a => Fin.ext ?_)
  match a with
  | ⟨0, _⟩ => rfl
  | ⟨1, _⟩ => show 0 + 1 * r.val = r.val; omega
  | ⟨2, _⟩ => show 0 + 1 * c.val = c.val; omega

/-- A batch's eight slots read off the stores alone, once they cover them. -/
theorem Holds.slotsCov [∀ e, Nonempty (Val e)] {L : List (View.Piece Val (⟨3, ![4, 8, 256]⟩ : Shape) e)} {n : ℕ}
    (h : Holds v base z x t cov L n)
    (b : Fin 4) (hc : 8 ≤ cov (count b n))
    (inb : ∀ a : Fin 3, (![b.val, 0, 0] : Fin 3 → ℕ) a + (![1, 8, 256] : Fin 3 → ℕ) a ≤ (![4, 8, 256] : Fin 3 → ℕ) a)
    (r : Fin 8) (c : Fin 256) :
    v.readCov L (Rect.unit (s := (⟨3, ![4, 8, 256]⟩ : Shape)) ![b.val, 0, 0] ![1, 8, 256] inb).toLoadRect
        (ix3 (0 : Fin 1) r c) = ring z (x b) (16 * t + count b n) r c := by
  rw [← h.val, ← h.indep v.junk b r c (Nat.lt_of_lt_of_le r.isLt hc)]
  refine congrArg (v.read Val (v.writes Val v.junk L)) (funext fun a => Fin.ext ?_)
  match a with
  | ⟨0, _⟩ => rfl
  | ⟨1, _⟩ => show 0 + 1 * r.val = r.val; omega
  | ⟨2, _⟩ => show 0 + 1 * c.val = c.val; omega

end Stores

end Cert.Atlas
-- ==== Proof.Step.lean ====
/-
One step of the recurrence on plain matrices of extended reals, in the order the kernel computes it, and the kernel's vector
expressions for one step read as it.
-/
module

public import proofs.«01_k».proof.Proof.Ring
public import proofs.«01_k».proof.Proof.Gen.KernelIdeal
public import Idealize.ShloMosaic.Lib.MatmulPlain
public import Idealize.ShloMosaic.Lib.ValueLayout
public import Idealize.ShloMosaic.PureOps.Ideal.Laws

@[expose] public section

noncomputable section

namespace Cert.Atlas

open Idealize.ShloMosaic Idealize.ShloMosaic.ValueIdx
open Cert.KernelIdeal Cert.KernelIdeal.Gen
open scoped BigOperators

/-- A square matrix, its rows first. -/
abbrev Mat := Fin 256 → Fin 256 → EReal

/-- What one batch feeds the recurrence, by time: the features, the features and the values scaled by the root of the window
    gate, and the three channel gates. -/
structure Rows where
  k : ℕ → Fin 256 → EReal
  gk : ℕ → Fin 256 → EReal
  gv : ℕ → Fin 256 → EReal
  a : ℕ → Fin 256 → EReal
  e : ℕ → Fin 256 → EReal
  th : ℕ → Fin 256 → EReal

/-- The small number added to a norm. -/
def eps : EReal := Ideal.ofBits .f32 869711765#32
/-- Three halves, as the programs write it. -/
def threeHalves : EReal := Ideal.ofBits .f32 1069547520#32
/-- One half, as the programs write it. -/
def oneHalf : EReal := Ideal.ofBits .f32 1056964608#32
/-- The sum of the squares of a matrix. -/
def sumSq (S : Mat) : EReal := ∑ i, ∑ j, S i j * S i j
/-- The norm the orthogonalisation divides by. -/
def nrm (S : Mat) : EReal := Ideal.sqrt (sumSq S) + eps
/-- The reciprocal of the window's length at time `t`. -/
def rc (t : ℕ) : EReal := ((1 / ((min (t + 1) 8 : ℕ) : ℝ) : ℝ) : EReal)
/-- The scaled prediction errors of the window's slots. -/
def err (K V : Fin 8 → Fin 256 → EReal) (c : EReal) (M : Mat) : Fin 8 → Fin 256 → EReal :=
  fun r d => (∑ e, K r e * M e d - V r d) * c
/-- The next momentum. -/
def nextS (th : Fin 256 → EReal) (K V : Fin 8 → Fin 256 → EReal) (c : EReal) (M S : Mat) : Mat :=
  fun e d => th d * S e d + ∑ r, K r e * err K V c M r d
/-- `S Sᵀ S`. -/
def cube (S : Mat) : Mat := fun e d => ∑ f, (∑ g, S e g * S f g) * S f d
/-- The next memory, from the next momentum. -/
def nextM (a eta : Fin 256 → EReal) (M S : Mat) : Mat := fun e d =>
  a d * M e d - Ideal.div threeHalves (nrm S) * eta d * S e d
    + Ideal.div oneHalf (nrm S * nrm S * nrm S) * eta d * cube S e d

/-- Memory and momentum after `n` steps, both transposed as the kernel keeps them. -/
def state (q : Rows) (M0 S0 : Mat) : ℕ → Mat × Mat
  | 0 => (M0, S0)
  | n + 1 =>
    (nextM (q.a n) (q.e n) (state q M0 S0 n).1
        (nextS (q.th n) (ring 0 q.gk (n + 1)) (ring 0 q.gv (n + 1)) (rc n) (state q M0 S0 n).1 (state q M0 S0 n).2),
      nextS (q.th n) (ring 0 q.gk (n + 1)) (ring 0 q.gv (n + 1)) (rc n) (state q M0 S0 n).1 (state q M0 S0 n).2)

/-- The row step `n` reads out: the features through the memory after the step. -/
def readOut (q : Rows) (M0 S0 : Mat) (n : ℕ) : Fin 256 → EReal := fun d => ∑ e, q.k n e * (state q M0 S0 (n + 1)).1 e d

/-! ## The vector operations at an index -/

theorem mm_8_256_256 (l : FVec Ideal S8x256 .bf16) (r : FVec Ideal S256x256 .bf16) (i : Fin 8) (j : Fin 256) :
    matmul dot_S8x256_S256x256_S8x256_1_0_0_1_n_n none l r (constant S8x256 .f32 0x00000000#32) (ix2 i j)
      = ∑ k : Fin 256, l (ix2 i k) * r (ix2 k j) := by
  refine (Ideal.matmul_plain_apply (M := 8) (K := 256) (N := 256) none l r _ i j).trans ?_
  show Ideal.ofBits .f32 0x00000000#32 + _ = _
  rw [Ideal.ofBits_zero_f32, zero_add]

theorem mm_1_256_256 (l : FVec Ideal S1x256 .bf16) (r : FVec Ideal S256x256 .bf16) (i : Fin 1) (j : Fin 256) :
    matmul dot_S1x256_S256x256_S1x256_1_0_0_1_n_n none l r (constant S1x256 .f32 0x00000000#32) (ix2 i j)
      = ∑ k : Fin 256, l (ix2 i k) * r (ix2 k j) := by
  refine (Ideal.matmul_plain_apply (M := 1) (K := 256) (N := 256) none l r _ i j).trans ?_
  show Ideal.ofBits .f32 0x00000000#32 + _ = _
  rw [Ideal.ofBits_zero_f32, zero_add]

theorem mm_256_256_256 (l r : FVec Ideal S256x256 .bf16) (i : Fin 256) (j : Fin 256) :
    matmul dot_S256x256_S256x256_S256x256_1_0_0_1_n_n none l r (constant S256x256 .f32 0x00000000#32) (ix2 i j)
      = ∑ k : Fin 256, l (ix2 i k) * r (ix2 k j) := by
  refine (Ideal.matmul_plain_apply (M := 256) (K := 256) (N := 256) none l r _ i j).trans ?_
  show Ideal.ofBits .f32 0x00000000#32 + _ = _
  rw [Ideal.ofBits_zero_f32, zero_add]

theorem mmT_256_256_256 (l r : FVec Ideal S256x256 .bf16) (i : Fin 256) (j : Fin 256) :
    matmul dot_S256x256_S256x256_S256x256_1_1_0_0_n_n none l r (constant S256x256 .f32 0x00000000#32) (ix2 i j)
      = ∑ k : Fin 256, l (ix2 i k) * r (ix2 j k) := by
  refine (Ideal.matmul_transposedRhs_apply (M := 256) (K := 256) (N := 256) none l r _ i j).trans ?_
  show Ideal.ofBits .f32 0x00000000#32 + _ = _
  rw [Ideal.ofBits_zero_f32, zero_add]

theorem mmT_16_256_256 (l : FVec Ideal S16x256 .bf16) (r : FVec Ideal S256x256 .bf16) (i : Fin 16) (j : Fin 256) :
    matmul dot_S16x256_S256x256_S16x256_1_1_0_0_n_n none l r (constant S16x256 .f32 0x00000000#32) (ix2 i j)
      = ∑ k : Fin 256, l (ix2 i k) * r (ix2 j k) := by
  refine (Ideal.matmul_transposedRhs_apply (M := 16) (K := 256) (N := 256) none l r _ i j).trans ?_
  show Ideal.ofBits .f32 0x00000000#32 + _ = _
  rw [Ideal.ofBits_zero_f32, zero_add]

theorem mm_16_256_1 (l : FVec Ideal S16x256 .bf16) (r : FVec Ideal S256x1 .bf16) (i : Fin 16) (j : Fin 1) :
    matmul dot_S16x256_S256x1_S16x1_1_0_0_1_n_n none l r (constant S16x1 .f32 0x00000000#32) (ix2 i j)
      = ∑ k : Fin 256, l (ix2 i k) * r (ix2 k j) := by
  refine (Ideal.matmul_plain_apply (M := 16) (K := 256) (N := 1) none l r _ i j).trans ?_
  show Ideal.ofBits .f32 0x00000000#32 + _ = _
  rw [Ideal.ofBits_zero_f32, zero_add]

theorem mmL_8_256_256 (l r : FVec Ideal S8x256 .bf16) (i : Fin 256) (j : Fin 256) :
    matmul dot_S8x256_S8x256_S256x256_0_0_1_1_n_n none l r (constant S256x256 .f32 0x00000000#32) (ix2 i j)
      = ∑ k : Fin 8, l (ix2 k i) * r (ix2 k j) := by
  refine (Ideal.matmul_constant_zero_apply dot_S8x256_S8x256_S256x256_0_0_1_1_n_n none l r (ix2 i j)).trans ?_
  rw [← Equiv.sum_comp (contrEquiv1 dot_S8x256_S8x256_S256x256_0_0_1_1_n_n 8 rfl rfl).symm]
  refine Finset.sum_congr rfl fun k _ => ?_
  have hk := contrEquiv1_symm_val dot_S8x256_S8x256_S256x256_0_0_1_1_n_n 8 rfl rfl k
  have el : dot_S8x256_S8x256_S256x256_0_0_1_1_n_n.lhsIdx (ix2 i j)
      ((contrEquiv1 dot_S8x256_S8x256_S256x256_0_0_1_1_n_n 8 rfl rfl).symm k) = ix2 k i := by
    funext a; apply Fin.ext
    match a with
    | ⟨0, _⟩ => exact hk
    | ⟨1, _⟩ => rfl
  have er : dot_S8x256_S8x256_S256x256_0_0_1_1_n_n.rhsIdx (ix2 i j)
      ((contrEquiv1 dot_S8x256_S8x256_S256x256_0_0_1_1_n_n 8 rfl rfl).symm k) = ix2 k j := by
    funext a; apply Fin.ext
    match a with
    | ⟨0, _⟩ => exact hk
    | ⟨1, _⟩ => rfl
  rw [el, er]

theorem bcastRow {α : Type} {m : ℕ} (x : S1x256.Idx → α) (h : S1x256.Broadcasts ⟨2, ![m, 256]⟩) (i : Fin m) (j : Fin 256) :
    broadcastTo ⟨2, ![m, 256]⟩ x h (ix2 i j) = x (ix2 0 j) :=
  congrArg x (funext fun a => Fin.ext (by
    match a with
    | ⟨0, _⟩ => rfl
    | ⟨1, _⟩ => rfl))

theorem rowOf {α : Type} (j : ℕ) (x : S16x256.Idx → α) (h : S16x256.Slices ![j, 0] S1x256) (hj : j < 16) (u : Fin 1) (d : Fin 256) :
    extractStridedSlice S1x256 ![j, 0] x h (ix2 u d) = x (ix2 ⟨j, hj⟩ d) :=
  congrArg x (funext fun a => Fin.ext (by
    match a with
    | ⟨0, _⟩ => show j + u.val = j; omega
    | ⟨1, _⟩ => show 0 + d.val = d.val; omega))

/-! ## One step -/

/-- The next momentum, as the kernel computes it. -/
theorem step_S {q : Rows} {M0 S0 : Mat} {n : ℕ} {M S S' : FVec Ideal S256x256 .f32}
    (hM : ∀ e d, M (ix2 e d) = (state q M0 S0 n).1 e d) (hS : ∀ e d, S (ix2 e d) = (state q M0 S0 n).2 e d)
    {KB : FVec Ideal S1x8x256 .bf16} (hK : ∀ r e, KB (ix3 0 r e) = ring 0 q.gk (n + 1) r e)
    {VB : FVec Ideal S1x8x256 .f32} (hV : ∀ r e, VB (ix3 0 r e) = ring 0 q.gv (n + 1) r e)
    {TH : FVec Ideal S16x256 .f32} {j : ℕ} (hj : j < 16) (hTH : ∀ d, TH (ix2 ⟨j, hj⟩ d) = q.th n d)
    {c : EReal} (hc : c = rc n)
    {s₁ s₂ s₃ s₄ s₅ s₆ s₇}
    (h : S' = addf (mulf (broadcastTo S256x256 (extractStridedSlice S1x256 ![j, 0] TH s₁) s₂) S)
      (matmul dot_S8x256_S8x256_S256x256_0_0_1_1_n_n none (shapeCast S8x256 KB s₃)
        (truncf .bf16 (mulf (subf
          (matmul dot_S8x256_S256x256_S8x256_1_0_0_1_n_n none (shapeCast S8x256 KB s₄) (truncf .bf16 M s₅)
            (constant S8x256 .f32 0x00000000#32))
          (shapeCast S8x256 VB s₆)) (broadcast S8x256 (c : Ideal .f32))) s₇) (constant S256x256 .f32 0x00000000#32))) :
    ∀ e d, S' (ix2 e d) = (state q M0 S0 (n + 1)).2 e d := by
  subst h hc
  intro e d
  show _ * _ + _ = _
  rw [bcastRow, rowOf j TH _ hj, hTH, hS, mmL_8_256_256]
  show _ = nextS _ _ _ _ _ _ e d
  unfold nextS err
  congr 1
  refine Finset.sum_congr rfl fun r _ => ?_
  rw [shapeCast_1ab_ab_apply, hK]
  congr 1
  show (_ - (shapeCast S8x256 VB s₆ (ix2 r d) : EReal)) * _ = _
  rw [mm_8_256_256, shapeCast_1ab_ab_apply, hV]
  refine congrArg₂ (· * ·) (congrArg (· - _) (Finset.sum_congr rfl fun k _ => ?_)) rfl
  rw [shapeCast_1ab_ab_apply, hK, ← hM]
  rfl

/-- The norm, as the kernel computes it. -/
theorem norm_eq {S : FVec Ideal S256x256 .f32} {s : Mat} (hS : ∀ e d, S (ix2 e d) = s e d) {h₁ h₂ h₃ h₄ h₅ h₆} :
    Scalar.addf (Scalar.sqrt (extractAt ![0, 0, 0] (shapeCast S1x1x1 (multiReduction (F := Ideal) .add [1, 2] S1
      (shapeCast S1x256x256 (mulf S S) h₁) 0x00000000#32 h₂ h₃ h₄) h₅) h₆)) (FloatOps.ofBits (F := Ideal) .f32 869711765#32)
      = nrm s := by
  show Ideal.sqrt (multiReduction (F := Ideal) .add [1, 2] S1 (shapeCast S1x256x256 (mulf S S) h₁) 0x00000000#32 h₂ h₃ h₄ _)
    + eps = _
  rw [Ideal.multiReduction_add_total _ _ _ (by decide)]
  unfold nrm sumSq
  congr 2
  show ∑ i, (mulf S S) (Shape.reshapeEquiv h₁ i) = _
  rw [Equiv.sum_comp (Shape.reshapeEquiv h₁) (mulf S S), sum_idx2]
  refine Finset.sum_congr rfl fun i _ => Finset.sum_congr rfl fun j _ => ?_
  show S _ * S _ = _
  rw [hS]

/-- The next memory, as the kernel computes it. -/
theorem step_M {q : Rows} {M0 S0 : Mat} {n : ℕ} {M S' M' : FVec Ideal S256x256 .f32}
    (hM : ∀ e d, M (ix2 e d) = (state q M0 S0 n).1 e d) (hS : ∀ e d, S' (ix2 e d) = (state q M0 S0 (n + 1)).2 e d)
    {A E : FVec Ideal S16x256 .f32} {j : ℕ} (hj : j < 16) (hA : ∀ d, A (ix2 ⟨j, hj⟩ d) = q.a n d)
    (hE : ∀ d, E (ix2 ⟨j, hj⟩ d) = q.e n d)
    {N : Ideal .f32}
    {s₁ s₂ s₃ s₄ s₅ s₆ s₇ s₈ s₉ n₁ n₂ n₃ n₄ n₅ n₆}
    (hN : N = Scalar.addf (Scalar.sqrt (extractAt ![0, 0, 0] (shapeCast S1x1x1 (multiReduction (F := Ideal) .add [1, 2] S1
      (shapeCast S1x256x256 (mulf S' S') n₁) 0x00000000#32 n₂ n₃ n₄) n₅) n₆)) (FloatOps.ofBits (F := Ideal) .f32 869711765#32))
    (h : M' = addf (subf (mulf (broadcastTo S256x256 (extractStridedSlice S1x256 ![j, 0] A s₁) s₂) M)
        (mulf (broadcastTo S256x256 (mulf (broadcast S1x256 (Scalar.divf (FloatOps.ofBits (F := Ideal) .f32 1069547520#32) N))
          (extractStridedSlice S1x256 ![j, 0] E s₃)) s₄) S'))
      (mulf (broadcastTo S256x256 (mulf (broadcast S1x256 (Scalar.divf (FloatOps.ofBits (F := Ideal) .f32 1056964608#32)
          (Scalar.mulf (Scalar.mulf N N) N))) (extractStridedSlice S1x256 ![j, 0] E s₅)) s₆)
        (matmul dot_S256x256_S256x256_S256x256_1_0_0_1_n_n none
          (truncf .bf16 (matmul dot_S256x256_S256x256_S256x256_1_1_0_0_n_n none (truncf .bf16 S' s₇) (truncf .bf16 S' s₇)
            (constant S256x256 .f32 0x00000000#32)) s₈)
          (truncf .bf16 S' s₉) (constant S256x256 .f32 0x00000000#32)))) :
    ∀ e d, M' (ix2 e d) = (state q M0 S0 (n + 1)).1 e d := by
  rw [norm_eq hS] at hN
  subst h hN
  intro e d
  show _ * _ - _ * _ + _ * _ = _
  rw [bcastRow, bcastRow, bcastRow, rowOf j A _ hj, hA, hM]
  show _ - (Ideal.div threeHalves _ * _) * _ + (Ideal.div oneHalf _ * _) * _ = _
  rw [rowOf j E _ hj, hE, hS, mm_256_256_256]
  show _ = nextM _ _ _ _ e d
  unfold nextM cube
  refine congrArg₂ (· + ·) rfl (congrArg₂ (· * ·) rfl (Finset.sum_congr rfl fun f _ => ?_))
  refine congrArg₂ (· * ·) ?_ (hS f d)
  show (matmul dot_S256x256_S256x256_S256x256_1_1_0_0_n_n none (truncf .bf16 S' s₇) (truncf .bf16 S' s₇)
    (constant (F := Ideal) S256x256 .f32 0x00000000#32)) (ix2 e f) = _
  rw [mmT_256_256_256]
  exact Finset.sum_congr rfl fun g _ => congrArg₂ (· * ·) (hS e g) (hS f g)

/-- The row a step reads out, as the kernel computes it. -/
theorem step_y {q : Rows} {M0 S0 : Mat} {n : ℕ} {M' : FVec Ideal S256x256 .f32} {y : FVec Ideal S1x256 .f32}
    (hM : ∀ e d, M' (ix2 e d) = (state q M0 S0 (n + 1)).1 e d)
    {K : FVec Ideal S16x256 .bf16} {j : ℕ} (hj : j < 16) (hK : ∀ d, K (ix2 ⟨j, hj⟩ d) = q.k n d) {s₁ s₂}
    (h : y = matmul dot_S1x256_S256x256_S1x256_1_0_0_1_n_n none (extractStridedSlice S1x256 ![j, 0] K s₁) (truncf .bf16 M' s₂)
      (constant S1x256 .f32 0x00000000#32)) :
    ∀ d, y (ix2 0 d) = readOut q M0 S0 n d := by
  subst h
  intro d
  rw [mm_1_256_256]
  refine Finset.sum_congr rfl fun k _ => congrArg₂ (· * ·) ?_ (hM k d)
  rw [rowOf j K _ hj, hK]

end Cert.Atlas

end
-- ==== Proof.Gates.lean ====
/-
The arrays of the problem, what they feed the recurrence, and the kernel's gate expressions at one grid point read as it.
-/
module

public import proofs.«01_k».proof.Proof.Step
public import Idealize.ShloMosaic.Lib.Pipeline.Value

@[expose] public section

noncomputable section

namespace Cert.Atlas

open Idealize.ShloMosaic Idealize.ShloMosaic.ValueIdx
open Cert.KernelIdeal Cert.KernelIdeal.Gen
open scoped BigOperators

/-- The sixteen arrays as functions of their coordinates, the two state matrices transposed. -/
structure Arrays where
  x : Fin 4 → ℕ → Fin 256 → EReal
  k : Fin 4 → ℕ → Fin 256 → EReal
  v : Fin 4 → ℕ → Fin 256 → EReal
  M0 : Fin 4 → Mat
  S0 : Fin 4 → Mat
  p : Fin 2 → Fin 256 → EReal
  aW : Mat
  ab : Fin 256 → EReal
  eW : Mat
  eb : Fin 256 → EReal
  tW : Mat
  tb : Fin 256 → EReal
  gW : Fin 256 → EReal
  gb : EReal
  oW : Mat
  ob : Fin 256 → EReal

namespace Arrays

variable (A : Arrays)

/-- A channel gate before scaling. -/
def gate (W : Mat) (b' : Fin 256 → EReal) (b : Fin 4) (t : ℕ) (d : Fin 256) : EReal :=
  Ideal.logistic (∑ e, A.x b t e * W d e + b' d)
/-- The window gate of a token. -/
def gam (b : Fin 4) (t : ℕ) : EReal := Ideal.logistic (∑ e, A.x b t e * A.gW e + A.gb)
/-- The polynomial features of a token. -/
def feat (b : Fin 4) (t : ℕ) (d : Fin 256) : EReal := A.p 0 d * A.k b t d + A.p 1 d * (A.k b t d * A.k b t d)
/-- One tenth, as the programs write it. -/
def tenth : EReal := Ideal.ofBits .f32 1036831949#32

/-- What batch `b` feeds the recurrence. -/
def rows (b : Fin 4) : Rows where
  k := A.feat b
  gk := fun t d => Ideal.sqrt (A.gam b t) * A.feat b t d
  gv := fun t d => Ideal.sqrt (A.gam b t) * A.v b t d
  a := A.gate A.aW A.ab b
  e := fun t d => A.gate A.eW A.eb b t d * tenth
  th := A.gate A.tW A.tb b

/-- Memory and momentum of batch `b` after `n` steps. -/
def st (b : Fin 4) (n : ℕ) : Mat × Mat := state (A.rows b) (A.M0 b) (A.S0 b) n
/-- The row batch `b` reads out at step `n`. -/
def y (b : Fin 4) (n : ℕ) : Fin 256 → EReal := readOut (A.rows b) (A.M0 b) (A.S0 b) n
/-- The projected output row of batch `b` at step `n`. -/
def out (b : Fin 4) (n : ℕ) (d : Fin 256) : EReal := ∑ e, A.y b n e * A.oW d e + A.ob d

end Arrays

section Loads

variable {sig : RefSig} {κ : Kind} {sp : Space} {e : EltTy} {Val : EltTy → Type}

/-- One batch of a block of three axes, loaded and read as a matrix. -/
theorem load3 {n m : ℕ} (v : View sig κ sp (⟨3, ![4, n, m]⟩ : Shape) e) (f : v.ty.Contents Val) (b : Fin 4)
    (inb : ∀ a : Fin 3, (![b.val, 0, 0] : Fin 3 → ℕ) a + (![1, n, m] : Fin 3 → ℕ) a ≤ (![4, n, m] : Fin 3 → ℕ) a)
    (h : (⟨3, ![1, n, m]⟩ : Shape).ShapeCasts ⟨2, ![n, m]⟩) (i : Fin n) (j : Fin m) :
    shapeCast ⟨2, ![n, m]⟩ (v.readAt Val (Rect.unit (s := (⟨3, ![4, n, m]⟩ : Shape)) ![b.val, 0, 0] ![1, n, m] inb).toLoadRect f)
      h (ix2 i j) = v.read Val f (ix3 b i j) := by
  refine (shapeCast_1ab_ab_apply _ _ _ _).trans (congrArg (v.read Val f) (funext fun a => Fin.ext ?_))
  match a with
  | ⟨0, _⟩ => rfl
  | ⟨1, _⟩ => show 0 + 1 * i.val = i.val; omega
  | ⟨2, _⟩ => show 0 + 1 * j.val = j.val; omega

/-- A whole matrix, loaded. -/
theorem load2 {n m : ℕ} (v : View sig κ sp (⟨2, ![n, m]⟩ : Shape) e) (f : v.ty.Contents Val)
    (inb : ∀ a : Fin 2, (![0, 0] : Fin 2 → ℕ) a + (![n, m] : Fin 2 → ℕ) a ≤ (![n, m] : Fin 2 → ℕ) a)
    (h : (⟨2, ![n, m]⟩ : Shape).ShapeCasts ⟨2, ![n, m]⟩) (i : Fin n) (j : Fin m) :
    shapeCast ⟨2, ![n, m]⟩ (v.readAt Val (Rect.unit (s := (⟨2, ![n, m]⟩ : Shape)) ![0, 0] ![n, m] inb).toLoadRect f)
      h (ix2 i j) = v.read Val f (ix2 i j) := by
  refine (shapeCast_apply _ h (ix2 i j) (ix2 i j) rfl).trans (congrArg (v.read Val f) (funext fun a => Fin.ext ?_))
  match a with
  | ⟨0, _⟩ => show 0 + 1 * i.val = i.val; omega
  | ⟨1, _⟩ => show 0 + 1 * j.val = j.val; omega

/-- One of the two rows of the coefficients, loaded. -/
theorem loadRow {m : ℕ} (v : View sig κ sp (⟨2, ![2, m]⟩ : Shape) e) (f : v.ty.Contents Val) (r : Fin 2)
    (inb : ∀ a : Fin 2, (![r.val, 0] : Fin 2 → ℕ) a + (![1, m] : Fin 2 → ℕ) a ≤ (![2, m] : Fin 2 → ℕ) a) (u : Fin 1) (j : Fin m) :
    v.readAt Val (Rect.unit (s := (⟨2, ![2, m]⟩ : Shape)) ![r.val, 0] ![1, m] inb).toLoadRect f (ix2 u j)
      = v.read Val f (ix2 r j) := by
  refine congrArg (v.read Val f) (funext fun a => Fin.ext ?_)
  match a with
  | ⟨0, _⟩ => show r.val + 1 * u.val = r.val; omega
  | ⟨1, _⟩ => show 0 + 1 * j.val = j.val; omega

end Loads

theorem bcastCol {α : Type} (x : S16x1.Idx → α) (h : S16x1.Broadcasts S16x256) (i : Fin 16) (j : Fin 256) :
    broadcastTo S16x256 x h (ix2 i j) = x (ix2 i 0) :=
  congrArg x (funext fun a => Fin.ext (by
    match a with
    | ⟨0, _⟩ => rfl
    | ⟨1, _⟩ => rfl))

theorem bcastOne {α : Type} (x : S1x1.Idx → α) (h : S1x1.Broadcasts S16x1) (i : Fin 16) (j : Fin 1) :
    broadcastTo S16x1 x h (ix2 i j) = x (ix2 0 0) :=
  congrArg x (funext fun a => Fin.ext (by
    match a with
    | ⟨0, _⟩ => rfl
    | ⟨1, _⟩ => rfl))

section Gates

variable (A : Arrays) (t : ℕ) (b : Fin 4)

/-- A channel gate. -/
theorem gate_val {G : FVec Ideal S16x256 .f32} {X : FVec Ideal S16x256 .f32} {W : FVec Ideal S256x256 .bf16} {B : FVec Ideal S1x256 .f32}
    {w : Mat} {b' : Fin 256 → EReal}
    (hX : ∀ (j : Fin 16) d, X (ix2 j d) = A.x b (16 * t + j) d) (hW : ∀ i j, W (ix2 i j) = w i j)
    (hB : ∀ d, B (ix2 0 d) = b' d) {s₁ s₂}
    (h : G = logistic (addf (matmul dot_S16x256_S256x256_S16x256_1_1_0_0_n_n none (truncf .bf16 X s₁) W
      (constant S16x256 .f32 0x00000000#32)) (broadcastTo S16x256 B s₂))) :
    ∀ (j : Fin 16) d, G (ix2 j d) = A.gate w b' b (16 * t + j) d := by
  subst h
  intro j d
  show Ideal.logistic (_ + _) = _
  rw [mmT_16_256_256, bcastRow, hB]
  refine congrArg Ideal.logistic (congrArg (· + _) (Finset.sum_congr rfl fun k _ => congrArg₂ (· * ·) (hX j k) (hW d k)))

/-- The root of the window gate, spread over the channels. -/
theorem root_val {G : FVec Ideal S16x256 .f32} {X : FVec Ideal S16x256 .f32} {W : FVec Ideal S256x1 .bf16} {B : FVec Ideal S1x1 .f32}
    (hX : ∀ (j : Fin 16) d, X (ix2 j d) = A.x b (16 * t + j) d) (hW : ∀ i, W (ix2 i 0) = A.gW i)
    (hB : B (ix2 0 0) = A.gb) {s₁ s₂ s₃}
    (h : G = broadcastTo S16x256 (sqrt (logistic (addf (matmul dot_S16x256_S256x1_S16x1_1_0_0_1_n_n none (truncf .bf16 X s₁) W
      (constant S16x1 .f32 0x00000000#32)) (broadcastTo S16x1 B s₂)))) s₃) :
    ∀ (j : Fin 16) d, G (ix2 j d) = Ideal.sqrt (A.gam b (16 * t + j)) := by
  subst h
  intro j d
  rw [bcastCol]
  show Ideal.sqrt (Ideal.logistic (_ + _)) = _
  rw [mm_16_256_1, bcastOne, hB]
  refine congrArg Ideal.sqrt (congrArg Ideal.logistic (congrArg (· + _) (Finset.sum_congr rfl fun k _ =>
    congrArg₂ (· * ·) (hX j k) (hW k))))

/-- The polynomial features. -/
theorem feat_val {G : FVec Ideal S16x256 .f32} {K : FVec Ideal S16x256 .f32} {P₀ P₁ : FVec Ideal S1x256 .f32}
    (hK : ∀ (j : Fin 16) d, K (ix2 j d) = A.k b (16 * t + j) d) (h₀ : ∀ d, P₀ (ix2 0 d) = A.p 0 d)
    (h₁ : ∀ d, P₁ (ix2 0 d) = A.p 1 d) {s₁ s₂}
    (h : G = addf (mulf (broadcastTo S16x256 P₀ s₁) K) (mulf (broadcastTo S16x256 P₁ s₂) (mulf K K))) :
    ∀ (j : Fin 16) d, G (ix2 j d) = A.feat b (16 * t + j) d := by
  subst h
  intro j d
  show _ * _ + _ * (_ * _) = _
  rw [bcastRow, bcastRow, h₀, h₁, hK]
  rfl

end Gates

/-! ## The chain of sixteen steps -/

/-- After `j` of a grid point's sixteen steps: memory and momentum, and the rows read out so far. -/
structure Chain (A : Arrays) (t : ℕ) (b : Fin 4) (j : ℕ) (M S : FVec Ideal S256x256 .f32) (y : Fin 16 → FVec Ideal S1x256 .f32) :
    Prop where
  M : ∀ e d, M (ix2 e d) = (A.st b (16 * t + j)).1 e d
  S : ∀ e d, S (ix2 e d) = (A.st b (16 * t + j)).2 e d
  y : ∀ i : Fin 16, i.val < j → ∀ d, y i (ix2 0 d) = A.y b (16 * t + i) d

/-- One more step. -/
theorem Chain.step {A : Arrays} {t : ℕ} {b : Fin 4} {j : ℕ} {M S M' S' : FVec Ideal S256x256 .f32}
    {y : Fin 16 → FVec Ideal S1x256 .f32}
    {KB : FVec Ideal S1x8x256 .bf16} {VB : FVec Ideal S1x8x256 .f32} {TH AG EG : FVec Ideal S16x256 .f32}
    {KF : FVec Ideal S16x256 .bf16} {c N : Ideal .f32} (hj : j < 16)
    {m₁ m₂ m₃ m₄ m₅ m₆ m₇ m₈ m₉ n₁ n₂ n₃ n₄ n₅ n₆}
    (hM : M' = addf (subf (mulf (broadcastTo S256x256 (extractStridedSlice S1x256 ![j, 0] AG m₁) m₂) M)
        (mulf (broadcastTo S256x256 (mulf (broadcast S1x256 (Scalar.divf (FloatOps.ofBits (F := Ideal) .f32 1069547520#32) N))
          (extractStridedSlice S1x256 ![j, 0] EG m₃)) m₄) S'))
      (mulf (broadcastTo S256x256 (mulf (broadcast S1x256 (Scalar.divf (FloatOps.ofBits (F := Ideal) .f32 1056964608#32)
          (Scalar.mulf (Scalar.mulf N N) N))) (extractStridedSlice S1x256 ![j, 0] EG m₅)) m₆)
        (matmul dot_S256x256_S256x256_S256x256_1_0_0_1_n_n none
          (truncf .bf16 (matmul dot_S256x256_S256x256_S256x256_1_1_0_0_n_n none (truncf .bf16 S' m₇) (truncf .bf16 S' m₇)
            (constant S256x256 .f32 0x00000000#32)) m₈)
          (truncf .bf16 S' m₉) (constant S256x256 .f32 0x00000000#32))))
    (hN : N = Scalar.addf (Scalar.sqrt (extractAt ![0, 0, 0] (shapeCast S1x1x1 (multiReduction (F := Ideal) .add [1, 2] S1
      (shapeCast S1x256x256 (mulf S' S') n₁) 0x00000000#32 n₂ n₃ n₄) n₅) n₆)) (FloatOps.ofBits (F := Ideal) .f32 869711765#32))
    {s₁ s₂ s₃ s₄ s₅ s₆ s₇}
    (hS : S' = addf (mulf (broadcastTo S256x256 (extractStridedSlice S1x256 ![j, 0] TH s₁) s₂) S)
      (matmul dot_S8x256_S8x256_S256x256_0_0_1_1_n_n none (shapeCast S8x256 KB s₃)
        (truncf .bf16 (mulf (subf
          (matmul dot_S8x256_S256x256_S8x256_1_0_0_1_n_n none (shapeCast S8x256 KB s₄) (truncf .bf16 M s₅)
            (constant S8x256 .f32 0x00000000#32))
          (shapeCast S8x256 VB s₆)) (broadcast S8x256 c)) s₇) (constant S256x256 .f32 0x00000000#32)))
    {y₁ y₂}
    (hy : y ⟨j, hj⟩ = matmul dot_S1x256_S256x256_S1x256_1_0_0_1_n_n none (extractStridedSlice S1x256 ![j, 0] KF y₁)
      (truncf .bf16 M' y₂) (constant S1x256 .f32 0x00000000#32))
    (hAG : ∀ (j : Fin 16) d, AG (ix2 j d) = (A.rows b).a (16 * t + j) d)
    (hEG : ∀ (j : Fin 16) d, EG (ix2 j d) = (A.rows b).e (16 * t + j) d)
    (hTH : ∀ (j : Fin 16) d, TH (ix2 j d) = (A.rows b).th (16 * t + j) d)
    (hKF : ∀ (j : Fin 16) d, KF (ix2 j d) = (A.rows b).k (16 * t + j) d)
    (hK : ∀ r e, KB (ix3 0 r e) = ring 0 (A.rows b).gk (16 * t + (j + 1)) r e)
    (hV : ∀ r e, VB (ix3 0 r e) = ring 0 (A.rows b).gv (16 * t + (j + 1)) r e)
    (hc : c = rc (16 * t + j))
    (h : Chain A t b j M S y) : Chain A t b (j + 1) M' S' y := by
  have hS' := step_S (q := A.rows b) (M0 := A.M0 b) (S0 := A.S0 b) (n := 16 * t + j) h.M h.S hK hV hj (fun d => hTH ⟨j, hj⟩ d) hc hS
  have hM' := step_M (q := A.rows b) (M0 := A.M0 b) (S0 := A.S0 b) (n := 16 * t + j) h.M hS' hj (fun d => hAG ⟨j, hj⟩ d)
    (fun d => hEG ⟨j, hj⟩ d) hN hM
  refine ⟨hM', hS', fun i hi d => ?_⟩
  rcases Nat.lt_succ_iff_lt_or_eq.mp hi with hlt | heq
  · exact h.y i hlt d
  · obtain rfl : i = ⟨j, hj⟩ := Fin.ext heq
    exact step_y (q := A.rows b) (M0 := A.M0 b) (S0 := A.S0 b) (n := 16 * t + j) hM' hj (fun d => hKF ⟨j, hj⟩ d) hy d

/-- The sixteen rows read out, one under another. -/
theorem stack {f : Fin 16 → FVec Ideal S1x256 .f32} {Y : FVec Ideal S16x256 .f32} {h}
    (hY : Y = concatenate S16x256 0 (List.ofFn fun n : Fin 16 => (⟨S1x256, f n⟩ : (s : Shape) × (s.Idx → Ideal .f32))) h)
    (i : Fin 16) (d : Fin 256) : Y (ix2 i d) = f i (ix2 0 d) := by
  subst hY
  refine concatenate_ofFn_unit_apply (t := S16x256) (s₁ := S1x256) (0 : Fin 2) f h rfl rfl (ix2 i d) i rfl (ix2 0 d) ?_
  intro a ha
  match a with
  | ⟨0, _⟩ => exact absurd rfl ha
  | ⟨1, _⟩ => rfl

/-- The projected output rows of one batch at one grid point. -/
theorem proj {A : Arrays} {t : ℕ} {b : Fin 4} {y : Fin 16 → FVec Ideal S1x256 .f32} {Y : FVec Ideal S16x256 .f32} {O : FVec Ideal S16x256 .f32}
    {W : FVec Ideal S256x256 .bf16} {B : FVec Ideal S1x256 .f32}
    (hW : ∀ i j, W (ix2 i j) = A.oW i j) (hB : ∀ d, B (ix2 0 d) = A.ob d)
    (hY : ∀ (i : Fin 16) d, Y (ix2 i d) = y i (ix2 0 d)) (hy : ∀ (i : Fin 16) d, y i (ix2 0 d) = A.y b (16 * t + i) d) {s₁ s₂}
    (h : O = addf (matmul dot_S16x256_S256x256_S16x256_1_1_0_0_n_n none (truncf .bf16 Y s₁) W
      (constant S16x256 .f32 0x00000000#32)) (broadcastTo S16x256 B s₂)) :
    ∀ (i : Fin 16) d, O (ix2 i d) = A.out b (16 * t + i) d := by
  subst h
  intro i d
  show _ + _ = _
  rw [mmT_16_256_256, bcastRow, hB]
  refine congrArg (· + _) (Finset.sum_congr rfl fun k _ => congrArg₂ (· * ·) ?_ (hW d k))
  exact (hY i k).trans (hy i k)

end Cert.Atlas

end
-- ==== Proof.Rings.lean ====
/-
The two ring buffers after the body's stores: each grid point leaves the ring of the gated rows at its sixteenth step.
-/
module

public import proofs.«01_k».proof.Proof.Gates
public import proofs.«01_k».proof.Proof.Ring
public import proofs.«01_k».proof.Proof.IdealBody

@[expose] public section

set_option maxRecDepth 16384

noncomputable section

namespace Cert.Atlas

open Idealize.ShloMosaic Idealize.ShloMosaic.ValueIdx
open Cert.KernelIdeal Cert.KernelIdeal.Gen Cert.KernelIdeal.Body
open scoped BigOperators

/-- A tile has sixteen rows to take. -/
theorem slicesRow : ∀ j : Fin 16, S16x256.Slices ![j.val, 0] S1x256 := by decide

/-- One row of a tile, as a store of a row takes it. -/
theorem pushed {α : Type} {G : S16x256.Idx → α} {w : S1x1x256.Idx → α} {j : ℕ} {p q} (hj : j < 16)
    (h : w = shapeCast S1x1x256 (extractStridedSlice S1x256 ![j, 0] G p) q) (c : Fin 256) : w (ix3 0 0 c) = G (ix2 ⟨j, hj⟩ c) := by
  subst h
  exact (shapeCast_ab_1ab_apply _ _ _ _ _).trans (rowOf j G p hj 0 c)

section Push

variable {v : View sig .tc .vmem S4x8x256 .bf16} {base : v.ty.Contents (Elt Ideal)}
variable {x : Fin 4 → ℕ → Fin 256 → EReal} {t : ℕ} {G : Fin 4 → FVec Ideal S16x256 .bf16}

/-- One more row pushed into the ring of feature rows. -/
theorem pushPair (hG : ∀ b (j : Fin 16) d, G b (ix2 j d) = x b (16 * t + j) d)
    (hbase : ∀ b r c, v.read (Elt Ideal) base (ix3 b r c) = ring (0 : EReal) (x b) (16 * t) r c)
    {L : List (View.Piece (Elt Ideal) S4x8x256 .bf16)} {n b o s : ℕ} {inb} {w : Vec Ideal S1x1x256 .bf16} {old : Vec Ideal S1x2x256 .bf16} {hsl}
    (hn : n < 64) (hb : b = n % 4) (ho : o = 2 * (n / 4 % 8 / 2)) (hs : s = n / 4 % 2)
    (hw : w = shapeCast S1x1x256 (extractStridedSlice S1x256 ![n / 4, 0] (G ⟨n % 4, Nat.mod_lt _ (by decide)⟩)
      (slicesRow ⟨n / 4, by omega⟩)) shapeCasts_S1x256_S1x1x256)
    (hold : (o = n / 4 ∧ old = v.readAt (Elt Ideal) (Rect.unit (s := S4x8x256) ![b, o, 0] S1x2x256.size inb).toLoadRect base)
      ∨ (o + 2 ≤ pairs (n / 4) ∧ old = v.readCov L (Rect.unit (s := S4x8x256) ![b, o, 0] S1x2x256.size inb).toLoadRect))
    (h : AllHolds (Val := Elt Ideal) v base (0 : EReal) x t pairs L n) :
    AllHolds (Val := Elt Ideal) v base (0 : EReal) x t pairs
      ((⟨Rect.unit (s := S4x8x256) ![b, o, 0] S1x2x256.size inb,
        (fun old' : Vec Ideal S1x2x256 .bf16 => updateSlice old' w ![0, s, 0] hsl) old⟩ : View.Piece (Elt Ideal) S4x8x256 .bf16) :: L)
      (n + 1) := by
  subst hb
  refine AllHolds.pair (Val := Elt Ideal) h (⟨n % 4, Nat.mod_lt _ (by decide)⟩ : Fin 4) (n / 4) o s (Nat.div_add_mod _ _).symm ho hs inb w old hsl ?_ ?_
  · intro s' r c _ hr
    rcases hold with ⟨e, rfl⟩ | ⟨e, rfl⟩
    · exact old_base (Val := Elt Ideal) h hbase ⟨n % 4, Nat.mod_lt _ (by decide)⟩ (n / 4) o (Nat.div_add_mod _ _).symm e inb s' r c hr
    · exact old_cov (Val := Elt Ideal) h ⟨n % 4, Nat.mod_lt _ (by decide)⟩ (n / 4) o (Nat.div_add_mod _ _).symm e inb s' r c hr
  · intro c
    exact (pushed (by omega) hw c).trans (hG _ ⟨n / 4, by omega⟩ c)

end Push

section Push

variable {v : View sig .tc .vmem S4x8x256 .f32} {base : v.ty.Contents (Elt Ideal)}
variable {x : Fin 4 → ℕ → Fin 256 → EReal} {t : ℕ} {G : Fin 4 → FVec Ideal S16x256 .f32}

/-- One more row pushed into the ring of value rows. -/
theorem pushRow (hG : ∀ b (j : Fin 16) d, G b (ix2 j d) = x b (16 * t + j) d)
    {L : List (View.Piece (Elt Ideal) S4x8x256 .f32)} {n b o : ℕ} {inb} {w : Vec Ideal S1x1x256 .f32}
    (hn : n < 64) (hb : b = n % 4) (ho : o = n / 4 % 8)
    (hw : w = shapeCast S1x1x256 (extractStridedSlice S1x256 ![n / 4, 0] (G ⟨n % 4, Nat.mod_lt _ (by decide)⟩)
      (slicesRow ⟨n / 4, by omega⟩)) shapeCasts_S1x256_S1x1x256)
    (h : AllHolds (Val := Elt Ideal) v base (0 : EReal) x t (fun p => p) L n) :
    AllHolds (Val := Elt Ideal) v base (0 : EReal) x t (fun p => p)
      ((⟨Rect.unit (s := S4x8x256) ![b, o, 0] S1x1x256.size inb, w⟩ : View.Piece (Elt Ideal) S4x8x256 .f32) :: L) (n + 1) := by
  subst hb
  refine AllHolds.row (Val := Elt Ideal) h (⟨n % 4, Nat.mod_lt _ (by decide)⟩ : Fin 4) (n / 4) o (Nat.div_add_mod _ _).symm ho inb w fun c => ?_
  exact (pushed (by omega) hw c).trans (hG _ ⟨n / 4, by omega⟩ c)

end Push

section Kernel

variable {c : Dev nD} {i : grid0.Coords}
variable {M1 M2 M3 : Memref sig .tc .vmem S4x16x256 .f32} {M6 : Memref sig .tc .vmem S2x256 .f32}
variable {M13 : Memref sig .tc .vmem S256x1 .bf16} {M14 : Memref sig .tc .vmem S1x1 .f32}
variable {M20 : Memref sig .tc .vmem S4x8x256 .bf16} {M21 : Memref sig .tc .vmem S4x8x256 .f32}
variable {f1 : Bf (F := Ideal) c M1} {f2 : Bf (F := Ideal) c M2} {f3 : Bf (F := Ideal) c M3} {f6 : Bf (F := Ideal) c M6}
variable {f13 : Bf (F := Ideal) c M13} {f14 : Bf (F := Ideal) c M14} {f20 : Bf (F := Ideal) c M20}
variable {x : Fin 4 → ℕ → Fin 256 → EReal} {t : ℕ}

/-- The gated feature tiles of the four batches. -/
def keyTiles (c : Dev nD) (M1 M2 : Memref sig .tc .vmem S4x16x256 .f32) (M6 : Memref sig .tc .vmem S2x256 .f32)
    (M13 : Memref sig .tc .vmem S256x1 .bf16) (M14 : Memref sig .tc .vmem S1x1 .f32) (f1 : Bf (F := Ideal) c M1)
    (f2 : Bf (F := Ideal) c M2) (f6 : Bf (F := Ideal) c M6) (f13 : Bf (F := Ideal) c M13) (f14 : Bf (F := Ideal) c M14) :
    Fin 4 → FVec Ideal S16x256 .bf16 :=
  ![kernelRun.sl.v56 c M1 M2 M6 M13 M14 f1 f2 f6 f13 f14, kernelRun.sl.v104 c M1 M2 M6 M13 M14 f1 f2 f6 f13 f14,
    kernelRun.sl.v152 c M1 M2 M6 M13 M14 f1 f2 f6 f13 f14, kernelRun.sl.v200 c M1 M2 M6 M13 M14 f1 f2 f6 f13 f14]

/-- The gated value tiles of the four batches. -/
def valTiles (c : Dev nD) (M1 M3 : Memref sig .tc .vmem S4x16x256 .f32)
    (M13 : Memref sig .tc .vmem S256x1 .bf16) (M14 : Memref sig .tc .vmem S1x1 .f32) (f1 : Bf (F := Ideal) c M1)
    (f3 : Bf (F := Ideal) c M3) (f13 : Bf (F := Ideal) c M13) (f14 : Bf (F := Ideal) c M14) :
    Fin 4 → FVec Ideal S16x256 .f32 :=
  ![kernelRun.sl.v58 c M1 M3 M13 M14 f1 f3 f13 f14, kernelRun.sl.v106 c M1 M3 M13 M14 f1 f3 f13 f14,
    kernelRun.sl.v154 c M1 M3 M13 M14 f1 f3 f13 f14, kernelRun.sl.v202 c M1 M3 M13 M14 f1 f3 f13 f14]

/-- What the body finds in the ring of feature rows: zeros at the first grid point, what it held at the others. -/
abbrev base20 (c : Dev nD) (i : grid0.Coords) (M20 : Memref sig .tc .vmem S4x8x256 .bf16) (f20 : Bf (F := Ideal) c M20) :
    M20.view.ty.Contents (Elt Ideal) :=
  if _ : kernelRun.sl.v2 i = 1#1 then
    M20.view.writes (Elt Ideal) f20 [⟨Rect.unit ![0, 0, 0] S4x8x256.size inb_S4x8x256_S4x8x256_0_0_0, kernelRun.sl.v3828 (F := Ideal)⟩] else f20

set_option maxHeartbeats 1000000 in
/-- The body's sixty-four stores of feature rows keep the ring. -/
theorem keys_hold (hG : ∀ b (j : Fin 16) d, keyTiles c M1 M2 M6 M13 M14 f1 f2 f6 f13 f14 b (ix2 j d) = x b (16 * t + j) d)
    (hbase : ∀ b r d, M20.view.read (Elt Ideal) (base20 c i M20 f20) (ix3 b r d) = ring (0 : EReal) (x b) (16 * t) r d) :
    AllHolds (Val := Elt Ideal) M20.view (base20 c i M20 f20) (0 : EReal) x t pairs
      (kernelRun.sl.H20_64 c i M1 M2 M6 M13 M14 M20 f1 f2 f6 f13 f14 f20) 64 := by
  iterate 64
    refine pushPair hG hbase (by decide) (by decide) (by decide) (by decide) rfl
      (by first | (refine .inl ⟨by decide, ?_⟩; rfl) | (refine .inr ⟨by decide, ?_⟩; rfl)) ?_
  exact AllHolds.nil hbase rfl

set_option maxHeartbeats 1000000 in
/-- The body's sixty-four stores of value rows keep the ring. -/
theorem vals_hold {base : M21.view.ty.Contents (Elt Ideal)}
    (hG : ∀ b (j : Fin 16) d, valTiles c M1 M3 M13 M14 f1 f3 f13 f14 b (ix2 j d) = x b (16 * t + j) d)
    (hbase : ∀ b r d, M21.view.read (Elt Ideal) base (ix3 b r d) = ring (0 : EReal) (x b) (16 * t) r d) :
    AllHolds (Val := Elt Ideal) M21.view base (0 : EReal) x t (fun p => p)
      (kernelRun.sl.H21_64 c M1 M3 M13 M14 f1 f3 f13 f14) 64 := by
  iterate 64
    refine pushRow hG (by decide) (by decide) (by decide) rfl ?_
  exact AllHolds.nil hbase rfl

end Kernel

end Cert.Atlas

end
-- ==== Proof.Batches.lean ====
/-
The four batches of one grid point: the kernel's sixteen unrolled steps, read as sixteen steps of the recurrence.
-/
module

public import proofs.«01_k».proof.Proof.Rings

@[expose] public section

set_option maxRecDepth 16384

noncomputable section

namespace Cert.Atlas

open Idealize.ShloMosaic Idealize.ShloMosaic.ValueIdx
open Cert.KernelIdeal Cert.KernelIdeal.Gen Cert.KernelIdeal.Body
open scoped BigOperators

/-! ## The gates, from the loads on -/

section Loaded

variable {A : Arrays} {t : ℕ} {G : FVec Ideal S16x256 .f32}

variable {vX : View sig .tc .vmem S4x16x256 .f32} {fX : vX.ty.Contents (Elt Ideal)}
  (hX : ∀ b (j : Fin 16) d, vX.read (Elt Ideal) fX (ix3 b j d) = A.x b (16 * t + j) d)
include hX

/-- A channel gate, from the loads on. -/
theorem gate_of {vW : View sig .tc .vmem S256x256 .bf16} {fW : vW.ty.Contents (Elt Ideal)}
    {vB : View sig .tc .vmem S1x256 .f32} {fB : vB.ty.Contents (Elt Ideal)} {W : Mat} {B : Fin 256 → EReal}
    (hW : ∀ i j, vW.read (Elt Ideal) fW (ix2 i j) = W i j) (hB : ∀ d, vB.read (Elt Ideal) fB (ix2 0 d) = B d)
    (b : Fin 4) {i₁ i₂ i₃ c₁ c₂ c₃ s₁ s₂}
    (h : G = logistic (addf (matmul dot_S16x256_S256x256_S16x256_1_1_0_0_n_n none
      (truncf .bf16 (shapeCast S16x256 (vX.readAt (Elt Ideal) (Rect.unit (s := S4x16x256) ![b.val, 0, 0] S1x16x256.size i₁).toLoadRect fX) c₁ :
        FVec Ideal S16x256 .f32) s₁)
      (shapeCast S256x256 (vW.readAt (Elt Ideal) (Rect.unit (s := S256x256) ![0, 0] S256x256.size i₂).toLoadRect fW) c₂ : FVec Ideal S256x256 .bf16)
      (constant S16x256 .f32 0x00000000#32))
      (broadcastTo S16x256 (shapeCast S1x256 (vB.readAt (Elt Ideal) (Rect.unit (s := S1x256) ![0, 0] S1x256.size i₃).toLoadRect fB) c₃ :
        FVec Ideal S1x256 .f32) s₂))) :
    ∀ (j : Fin 16) d, G (ix2 j d) = A.gate W B b (16 * t + j) d :=
  gate_val A t b (fun j d => (load3 vX fX b i₁ c₁ j d).trans (hX b j d)) (fun i j => (load2 vW fW i₂ c₂ i j).trans (hW i j))
    (fun d => (load2 vB fB i₃ c₃ 0 d).trans (hB d)) h

/-- The root of the window gate, from the loads on. -/
theorem root_of {vW : View sig .tc .vmem S256x1 .bf16} {fW : vW.ty.Contents (Elt Ideal)}
    {vB : View sig .tc .vmem S1x1 .f32} {fB : vB.ty.Contents (Elt Ideal)}
    (hW : ∀ i, vW.read (Elt Ideal) fW (ix2 i 0) = A.gW i) (hB : vB.read (Elt Ideal) fB (ix2 0 0) = A.gb)
    (b : Fin 4) {i₁ i₂ i₃ c₁ c₂ c₃ s₁ s₂ s₃}
    (h : G = broadcastTo S16x256 (sqrt (logistic (addf (matmul dot_S16x256_S256x1_S16x1_1_0_0_1_n_n none
      (truncf .bf16 (shapeCast S16x256 (vX.readAt (Elt Ideal) (Rect.unit (s := S4x16x256) ![b.val, 0, 0] S1x16x256.size i₁).toLoadRect fX) c₁ :
        FVec Ideal S16x256 .f32) s₁)
      (shapeCast S256x1 (vW.readAt (Elt Ideal) (Rect.unit (s := S256x1) ![0, 0] S256x1.size i₂).toLoadRect fW) c₂ : FVec Ideal S256x1 .bf16)
      (constant S16x1 .f32 0x00000000#32))
      (broadcastTo S16x1 (shapeCast S1x1 (vB.readAt (Elt Ideal) (Rect.unit (s := S1x1) ![0, 0] S1x1.size i₃).toLoadRect fB) c₃ :
        FVec Ideal S1x1 .f32) s₂)))) s₃) :
    ∀ (j : Fin 16) d, G (ix2 j d) = Ideal.sqrt (A.gam b (16 * t + j)) :=
  root_val A t b (fun j d => (load3 vX fX b i₁ c₁ j d).trans (hX b j d)) (fun i => (load2 vW fW i₂ c₂ i 0).trans (hW i))
    ((load2 vB fB i₃ c₃ 0 0).trans hB) h

end Loaded

/-- The polynomial features, from the loads on. -/
theorem feat_of {A : Arrays} {t : ℕ} {G : FVec Ideal S16x256 .f32}
    {vK : View sig .tc .vmem S4x16x256 .f32} {fK : vK.ty.Contents (Elt Ideal)} {vP : View sig .tc .vmem S2x256 .f32} {fP : vP.ty.Contents (Elt Ideal)}
    (hK : ∀ b (j : Fin 16) d, vK.read (Elt Ideal) fK (ix3 b j d) = A.k b (16 * t + j) d)
    (hP : ∀ r d, vP.read (Elt Ideal) fP (ix2 r d) = A.p r d) (b : Fin 4) {i₁ i₂ i₃ c₁ s₁ s₂}
    {K : FVec Ideal S16x256 .f32}
    (hKe : K = shapeCast S16x256 (vK.readAt (Elt Ideal) (Rect.unit (s := S4x16x256) ![b.val, 0, 0] S1x16x256.size i₁).toLoadRect fK) c₁)
    (h : G = addf (mulf (broadcastTo S16x256 (vP.readAt (Elt Ideal) (Rect.unit (s := S2x256) ![0, 0] S1x256.size i₂).toLoadRect fP) s₁) K)
      (mulf (broadcastTo S16x256 (vP.readAt (Elt Ideal) (Rect.unit (s := S2x256) ![1, 0] S1x256.size i₃).toLoadRect fP) s₂) (mulf K K))) :
    ∀ (j : Fin 16) d, G (ix2 j d) = A.feat b (16 * t + j) d := by
  refine feat_val A t b (fun j d => ?_) (fun d => (loadRow vP fP 0 i₂ 0 d).trans (hP 0 d))
    (fun d => (loadRow vP fP 1 i₃ 0 d).trans (hP 1 d)) h
  rw [hKe]
  exact (load3 vK fK b i₁ c₁ j d).trans (hK b j d)

/-! ## The reciprocal of the window's length, as the kernel picks it -/

/-- The reciprocals of one to eight, each as the kernel writes it. -/
def recip : Fin 8 → Ideal .f32 :=
  ![FloatOps.ofBits (F := Ideal) .f32 1065353216#32, FloatOps.ofBits (F := Ideal) .f32 1056964608#32,
    Named.named κ "inv_3" 0x3EAAAAAB#32, FloatOps.ofBits (F := Ideal) .f32 1048576000#32,
    Named.named κ "inv_5" 0x3E4CCCCD#32, Named.named κ "inv_6" 0x3E2AAAAB#32,
    Named.named κ "inv_7" 0x3E124925#32, FloatOps.ofBits (F := Ideal) .f32 1040187392#32]

/-- The coefficient of step `j` at grid point `i`. -/
def coef (i : grid0.Coords) (j : ℕ) : Ideal .f32 :=
  if h : j < 8 then Scalar.select (Scalar.cmpi .eq (BitVec.ofNat 32 (i 0)) 0#32) (recip ⟨j, h⟩) (FloatOps.ofBits (F := Ideal) .f32 1040187392#32)
  else FloatOps.ofBits (F := Ideal) .f32 1040187392#32

theorem recip_eq (j : Fin 8) : recip j = ((1 / ((j.val + 1 : ℕ) : ℝ) : ℝ) : EReal) := by
  have hn : ∀ (s : String) (w : BitVec 32) (r : EReal), κ s = some r → (Named.named (F := Ideal) κ s w : Ideal .f32) = r :=
    fun s w r h => IdealRules.named_const.ideal_named_scalar _ _ _ _ h
  match j with
  | ⟨0, _⟩ => show Ideal.ofBits .f32 1065353216#32 = _; simp [Ideal.ofBits, Ideal.ieee, -EReal.coe_mul]; norm_num
  | ⟨1, _⟩ => show Ideal.ofBits .f32 1056964608#32 = _; simp [Ideal.ofBits, Ideal.ieee, -EReal.coe_mul]; norm_num
  | ⟨2, _⟩ => refine (hn "inv_3" _ _ rfl).trans ?_; norm_num
  | ⟨3, _⟩ => show Ideal.ofBits .f32 1048576000#32 = _; simp [Ideal.ofBits, Ideal.ieee, -EReal.coe_mul]; norm_num
  | ⟨4, _⟩ => refine (hn "inv_5" _ _ rfl).trans ?_; norm_num
  | ⟨5, _⟩ => refine (hn "inv_6" _ _ rfl).trans ?_; norm_num
  | ⟨6, _⟩ => refine (hn "inv_7" _ _ rfl).trans ?_; norm_num
  | ⟨7, _⟩ => show Ideal.ofBits .f32 1040187392#32 = _; simp [Ideal.ofBits, Ideal.ieee, -EReal.coe_mul]; norm_num

theorem coef_eq (i : grid0.Coords) (j : ℕ) : coef i j = rc (16 * (i 0).val + j) := by
  have h8 : (FloatOps.ofBits (F := Ideal) .f32 1040187392#32 : EReal) = ((1 / ((8 : ℕ) : ℝ) : ℝ) : EReal) := (recip_eq 7).trans (by norm_num)
  have hlt : (i 0).val < 16 := (i 0).isLt
  unfold coef rc
  split_ifs with h
  · by_cases h0 : (i 0).val = 0
    · have hc : Scalar.cmpi .eq (BitVec.ofNat 32 (i 0)) 0#32 = 1#1 := by rw [h0]; rfl
      rw [hc]
      refine (recip_eq ⟨j, h⟩).trans ?_
      rw [h0, show min (16 * 0 + j + 1) 8 = j + 1 by omega]
    · have hc : Scalar.cmpi .eq (BitVec.ofNat 32 (i 0)) 0#32 = 0#1 := by
        have : ∀ n : Fin 16, n.val ≠ 0 → Scalar.cmpi .eq (BitVec.ofNat 32 n.val) 0#32 = 0#1 := by decide
        exact this (i 0) h0
      rw [hc]
      refine h8.trans ?_
      rw [show min (16 * (i 0).val + j + 1) 8 = 8 by omega]
  · refine h8.trans ?_
    rw [show min (16 * (i 0).val + j + 1) 8 = 8 by omega]

end Cert.Atlas

end
-- ==== Proof.Chain.lean ====
/-
The sixteen unrolled steps of each batch at one grid point, read as sixteen steps of the recurrence.
-/
module

public import proofs.«01_k».proof.Proof.Batches

@[expose] public section

set_option maxRecDepth 16384

noncomputable section

namespace Cert.Atlas

open Idealize.ShloMosaic Idealize.ShloMosaic.ValueIdx
open Cert.KernelIdeal Cert.KernelIdeal.Gen Cert.KernelIdeal.Body
open scoped BigOperators

/-! ## Blocks stored whole or batch by batch -/

section Blocks

variable {sig : RefSig} {κ : Kind} {sp : Space} {e : EltTy} {Val : EltTy → Type} {n m : ℕ}

/-- A block stored whole reads as what was stored. -/
theorem stored (v : View sig κ sp (⟨3, ![4, n, m]⟩ : Shape) e) (f : v.ty.Contents Val)
    (inb : ∀ a : Fin 3, (![0, 0, 0] : Fin 3 → ℕ) a + (![4, n, m] : Fin 3 → ℕ) a ≤ (![4, n, m] : Fin 3 → ℕ) a)
    (w : (⟨3, ![4, n, m]⟩ : Shape).Idx → Val e) (b : Fin 4) (i : Fin n) (j : Fin m) :
    v.read Val (v.writes Val f [(⟨Rect.unit (s := (⟨3, ![4, n, m]⟩ : Shape)) ![0, 0, 0] ![4, n, m] inb, w⟩ :
      View.Piece Val (⟨3, ![4, n, m]⟩ : Shape) e)]) (ix3 b i j) = w (ix3 b i j) := by
  refine View.read_writes_cons_unit_of_mem v f inb w [] (ix3 b i j) (ix3 b i j) rfl fun a => ?_
  match a with
  | ⟨0, _⟩ => show b.val = 0 + b.val; omega
  | ⟨1, _⟩ => show i.val = 0 + i.val; omega
  | ⟨2, _⟩ => show j.val = 0 + j.val; omega

/-- Four batches stored one after another read as the batch's own store. -/
theorem batches (v : View sig κ sp (⟨3, ![4, n, m]⟩ : Shape) e) (f : v.ty.Contents Val)
    {x₀ x₁ x₂ x₃ : (⟨2, ![n, m]⟩ : Shape).Idx → Val e} (q : Fin 4 → Fin n → Fin m → Val e) {w₀ w₁ w₂ w₃ : (⟨3, ![1, n, m]⟩ : Shape).Idx → Val e} {i₀ i₁ i₂ i₃ s₀ s₁ s₂ s₃}
    {L : List (View.Piece Val (⟨3, ![4, n, m]⟩ : Shape) e)}
    (h : L = [⟨Rect.unit (s := (⟨3, ![4, n, m]⟩ : Shape)) ![3, 0, 0] ![1, n, m] i₃, w₃⟩,
      ⟨Rect.unit (s := (⟨3, ![4, n, m]⟩ : Shape)) ![2, 0, 0] ![1, n, m] i₂, w₂⟩,
      ⟨Rect.unit (s := (⟨3, ![4, n, m]⟩ : Shape)) ![1, 0, 0] ![1, n, m] i₁, w₁⟩,
      ⟨Rect.unit (s := (⟨3, ![4, n, m]⟩ : Shape)) ![0, 0, 0] ![1, n, m] i₀, w₀⟩])
    (h₀ : w₀ = shapeCast (⟨3, ![1, n, m]⟩ : Shape) x₀ s₀) (h₁ : w₁ = shapeCast (⟨3, ![1, n, m]⟩ : Shape) x₁ s₁)
    (h₂ : w₂ = shapeCast (⟨3, ![1, n, m]⟩ : Shape) x₂ s₂) (h₃ : w₃ = shapeCast (⟨3, ![1, n, m]⟩ : Shape) x₃ s₃)
    (q₀ : ∀ i j, x₀ (ix2 i j) = q 0 i j) (q₁ : ∀ i j, x₁ (ix2 i j) = q 1 i j)
    (q₂ : ∀ i j, x₂ (ix2 i j) = q 2 i j) (q₃ : ∀ i j, x₃ (ix2 i j) = q 3 i j)
    (b : Fin 4) (i : Fin n) (j : Fin m) :
    v.read Val (v.writes Val f L) (ix3 b i j) = q b i j := by
  subst h h₀ h₁ h₂ h₃
  have hit : ∀ (o : ℕ) inb (x : (⟨3, ![1, n, m]⟩ : Shape).Idx → Val e) L, b.val = o →
      v.read Val (v.writes Val f ((⟨Rect.unit (s := (⟨3, ![4, n, m]⟩ : Shape)) ![o, 0, 0] ![1, n, m] inb, x⟩ :
        View.Piece Val (⟨3, ![4, n, m]⟩ : Shape) e) :: L)) (ix3 b i j) = x (ix3 0 i j) := fun o inb x L ho => by
    refine View.read_writes_cons_unit_of_mem v f inb x L (ix3 b i j) (ix3 0 i j) rfl fun a => ?_
    match a with
    | ⟨0, _⟩ => show b.val = o + 0; omega
    | ⟨1, _⟩ => show i.val = 0 + i.val; omega
    | ⟨2, _⟩ => show j.val = 0 + j.val; omega
  have miss : ∀ (o : ℕ) inb (x : (⟨3, ![1, n, m]⟩ : Shape).Idx → Val e) L, b.val ≠ o →
      v.read Val (v.writes Val f ((⟨Rect.unit (s := (⟨3, ![4, n, m]⟩ : Shape)) ![o, 0, 0] ![1, n, m] inb, x⟩ :
        View.Piece Val (⟨3, ![4, n, m]⟩ : Shape) e) :: L)) (ix3 b i j) = v.read Val (v.writes Val f L) (ix3 b i j) :=
    fun o inb x L ho => by
      refine View.read_writes_cons_unit_of_not_mem v f inb x L _ rfl (0 : Fin 3) ?_
      show b.val < o ∨ o + 1 ≤ b.val
      omega
  match b with
  | ⟨3, _⟩ => exact ((hit 3 _ _ _ rfl).trans (shapeCast_ab_1ab_apply _ _ _ _ _)).trans (q₃ i j)
  | ⟨2, _⟩ => exact (((miss 3 _ _ _ (by norm_num)).trans (hit 2 _ _ _ rfl)).trans (shapeCast_ab_1ab_apply _ _ _ _ _)).trans (q₂ i j)
  | ⟨1, _⟩ =>
    exact ((((miss 3 _ _ _ (by norm_num)).trans (miss 2 _ _ _ (by norm_num))).trans (hit 1 _ _ _ rfl)).trans
      (shapeCast_ab_1ab_apply _ _ _ _ _)).trans (q₁ i j)
  | ⟨0, _⟩ =>
    exact (((((miss 3 _ _ _ (by norm_num)).trans (miss 2 _ _ _ (by norm_num))).trans (miss 1 _ _ _ (by norm_num))).trans
      (hit 0 _ _ _ rfl)).trans (shapeCast_ab_1ab_apply _ _ _ _ _)).trans (q₀ i j)

/-- A whole block of three axes, loaded. -/
theorem block3 (v : View sig κ sp (⟨3, ![4, n, m]⟩ : Shape) e) (f : v.ty.Contents Val)
    (inb : ∀ a : Fin 3, (![0, 0, 0] : Fin 3 → ℕ) a + (![4, n, m] : Fin 3 → ℕ) a ≤ (![4, n, m] : Fin 3 → ℕ) a)
    (h : (⟨3, ![4, n, m]⟩ : Shape).ShapeCasts ⟨3, ![4, n, m]⟩) (b : Fin 4) (i : Fin n) (j : Fin m) :
    shapeCast ⟨3, ![4, n, m]⟩ (v.readAt Val (Rect.unit (s := (⟨3, ![4, n, m]⟩ : Shape)) ![0, 0, 0] ![4, n, m] inb).toLoadRect f)
      h (ix3 b i j) = v.read Val f (ix3 b i j) := by
  refine (shapeCast_apply _ h (ix3 b i j) (ix3 b i j) rfl).trans (congrArg (v.read Val f) (funext fun a => Fin.ext ?_))
  match a with
  | ⟨0, _⟩ => show 0 + 1 * b.val = b.val; omega
  | ⟨1, _⟩ => show 0 + 1 * i.val = i.val; omega
  | ⟨2, _⟩ => show 0 + 1 * j.val = j.val; omega

/-- A block the body overwrites at the first grid point only. -/
theorem guarded {e : EltTy} {n m : ℕ} (v : View sig κ sp (⟨3, ![4, n, m]⟩ : Shape) e) (f : v.ty.Contents Val) (i : grid0.Coords)
    (inb : ∀ a : Fin 3, (![0, 0, 0] : Fin 3 → ℕ) a + (![4, n, m] : Fin 3 → ℕ) a ≤ (![4, n, m] : Fin 3 → ℕ) a)
    (w : (⟨3, ![4, n, m]⟩ : Shape).Idx → Val e) (X : Fin 4 → Fin n → Fin m → Val e)
    (hz : (i 0).val = 0 → ∀ b r d, w (ix3 b r d) = X b r d) (hs : (i 0).val ≠ 0 → ∀ b r d, v.read Val f (ix3 b r d) = X b r d)
    (b : Fin 4) (r : Fin n) (d : Fin m) :
    v.read Val (if _ : kernelRun.sl.v2 i = 1#1 then
      v.writes Val f [(⟨Rect.unit (s := (⟨3, ![4, n, m]⟩ : Shape)) ![0, 0, 0] ![4, n, m] inb, w⟩ :
        View.Piece Val (⟨3, ![4, n, m]⟩ : Shape) e)] else f) (ix3 b r d) = X b r d := by
  have hg : ∀ k : Fin 16, (Scalar.cmpi .ne (Scalar.extui (Scalar.cmpi .eq (BitVec.ofNat 32 k.val) 0#32)) 0#32 = 1#1) ↔ k.val = 0 := by
    decide
  have hi : kernelRun.sl.v2 i = 1#1 ↔ (i 0).val = 0 := hg (i 0)
  by_cases h0 : (i 0).val = 0
  · rw [dif_pos (hi.mpr h0)]
    exact (stored v f inb w b r d).trans (hz h0 b r d)
  · rw [dif_neg fun h => h0 (hi.mp h)]
    exact hs h0 b r d

end Blocks

/-! ## One step, its rings read off the buffers -/

/-- The gate tiles of one batch at one grid point. -/
structure Tiles (A : Arrays) (t : ℕ) (b : Fin 4) (AG EG TH : FVec Ideal S16x256 .f32) (KF : FVec Ideal S16x256 .bf16) : Prop where
  a : ∀ (j : Fin 16) d, AG (ix2 j d) = (A.rows b).a (16 * t + j) d
  e : ∀ (j : Fin 16) d, EG (ix2 j d) = (A.rows b).e (16 * t + j) d
  th : ∀ (j : Fin 16) d, TH (ix2 j d) = (A.rows b).th (16 * t + j) d
  k : ∀ (j : Fin 16) d, KF (ix2 j d) = (A.rows b).k (16 * t + j) d

/-- A batch's sixteen steps end at the memory `M` and the momentum `S`, with the rows read out stacked in `Y`. -/
def Done (A : Arrays) (t : ℕ) (b : Fin 4) (M S : FVec Ideal S256x256 .f32) (Y : FVec Ideal S16x256 .f32) : Prop :=
  ∃ y, Chain A t b 16 M S y ∧
    ∃ h, Y = concatenate S16x256 0 (List.ofFn fun n : Fin 16 => (⟨S1x256, y n⟩ : (s : Shape) × (s.Idx → Ideal .f32))) h

/-- One more step, the two windows loaded from the ring buffers. -/
theorem Chain.next {A : Arrays} {i : grid0.Coords} {b : Fin 4} {j : ℕ} {M S M' S' : FVec Ideal S256x256 .f32}
    {y : Fin 16 → FVec Ideal S1x256 .f32}
    {vK : View sig .tc .vmem S4x8x256 .bf16} {bK : vK.ty.Contents (Elt Ideal)} {LK : List (View.Piece (Elt Ideal) S4x8x256 .bf16)}
    {vV : View sig .tc .vmem S4x8x256 .f32} {bV : vV.ty.Contents (Elt Ideal)} {LV : List (View.Piece (Elt Ideal) S4x8x256 .f32)}
    (hk : AllHolds (Val := Elt Ideal) vK bK (0 : EReal) (fun b => (A.rows b).gk) (i 0).val pairs LK 64)
    (hv : AllHolds (Val := Elt Ideal) vV bV (0 : EReal) (fun b => (A.rows b).gv) (i 0).val (fun p => p) LV 64)
    {TH AG EG : FVec Ideal S16x256 .f32} {KF : FVec Ideal S16x256 .bf16}
    (T : Tiles A (i 0).val b AG EG TH KF)
    {KB : FVec Ideal S1x8x256 .bf16} {VB : FVec Ideal S1x8x256 .f32}
    {KS : FVec Ideal S8x256 .bf16} {VS : FVec Ideal S8x256 .f32} {c N : Ideal .f32} (hj : j < 16)
    {m₁ m₂ m₃ m₄ m₅ m₆ m₇ m₈ m₉ n₁ n₂ n₃ n₄ n₅ n₆}
    (hM : M' = addf (subf (mulf (broadcastTo S256x256 (extractStridedSlice S1x256 ![j, 0] AG m₁) m₂) M)
        (mulf (broadcastTo S256x256 (mulf (broadcast S1x256 (Scalar.divf (FloatOps.ofBits (F := Ideal) .f32 1069547520#32) N))
          (extractStridedSlice S1x256 ![j, 0] EG m₃)) m₄) S'))
      (mulf (broadcastTo S256x256 (mulf (broadcast S1x256 (Scalar.divf (FloatOps.ofBits (F := Ideal) .f32 1056964608#32)
          (Scalar.mulf (Scalar.mulf N N) N))) (extractStridedSlice S1x256 ![j, 0] EG m₅)) m₆)
        (matmul dot_S256x256_S256x256_S256x256_1_0_0_1_n_n none
          (truncf .bf16 (matmul dot_S256x256_S256x256_S256x256_1_1_0_0_n_n none (truncf .bf16 S' m₇) (truncf .bf16 S' m₇)
            (constant S256x256 .f32 0x00000000#32)) m₈)
          (truncf .bf16 S' m₉) (constant S256x256 .f32 0x00000000#32))))
    (hN : N = Scalar.addf (Scalar.sqrt (extractAt ![0, 0, 0] (shapeCast S1x1x1 (multiReduction (F := Ideal) .add [1, 2] S1
      (shapeCast S1x256x256 (mulf S' S') n₁) 0x00000000#32 n₂ n₃ n₄) n₅) n₆)) (FloatOps.ofBits (F := Ideal) .f32 869711765#32))
    {s₁ s₂ s₃ s₅ s₆ s₇}
    (hS : S' = addf (mulf (broadcastTo S256x256 (extractStridedSlice S1x256 ![j, 0] TH s₁) s₂) S)
      (matmul dot_S8x256_S8x256_S256x256_0_0_1_1_n_n none KS
        (truncf .bf16 (mulf (subf
          (matmul dot_S8x256_S256x256_S8x256_1_0_0_1_n_n none KS (truncf .bf16 M s₅)
            (constant S8x256 .f32 0x00000000#32))
          VS) (broadcast S8x256 c)) s₇) (constant S256x256 .f32 0x00000000#32)))
    (hKS : KS = shapeCast S8x256 KB s₃) (hVS : VS = shapeCast S8x256 VB s₆)
    {y₁ y₂}
    (hy : y ⟨j, hj⟩ = matmul dot_S1x256_S256x256_S1x256_1_0_0_1_n_n none (extractStridedSlice S1x256 ![j, 0] KF y₁)
      (truncf .bf16 M' y₂) (constant S1x256 .f32 0x00000000#32)) {k₁ k₂}
    (hKB : (8 ≤ pairs (j + 1) ∧ KB = vK.readCov (LK.drop (64 - (4 * j + b.val + 1)))
        (Rect.unit (s := S4x8x256) ![b.val, 0, 0] S1x8x256.size k₁).toLoadRect)
      ∨ KB = vK.readAt (Elt Ideal) (Rect.unit (s := S4x8x256) ![b.val, 0, 0] S1x8x256.size k₁).toLoadRect
        (vK.writes (Elt Ideal) bK (LK.drop (64 - (4 * j + b.val + 1)))))
    (hVB : (8 ≤ j + 1 ∧ VB = vV.readCov (LV.drop (64 - (4 * j + 4)))
        (Rect.unit (s := S4x8x256) ![b.val, 0, 0] S1x8x256.size k₂).toLoadRect)
      ∨ VB = vV.readAt (Elt Ideal) (Rect.unit (s := S4x8x256) ![b.val, 0, 0] S1x8x256.size k₂).toLoadRect
        (vV.writes (Elt Ideal) bV (LV.drop (64 - (4 * j + 4)))))
    (hc : c = coef i j)
    (h : Chain A (i 0).val b j M S y) : Chain A (i 0).val b (j + 1) M' S' y := by
  subst hKS hVS
  have hb := b.isLt
  have ck : count b.val (4 * j + b.val + 1) = j + 1 := count_push _ _ hb
  have cv : count b.val (4 * j + 4) = j + 1 := by unfold count; omega
  have Hk := hk (64 - (4 * j + b.val + 1)) (by omega)
  have Hv := hv (64 - (4 * j + 4)) (by omega)
  rw [show 64 - (64 - (4 * j + b.val + 1)) = 4 * j + b.val + 1 by omega] at Hk
  rw [show 64 - (64 - (4 * j + 4)) = 4 * j + 4 by omega] at Hv
  refine Chain.step hj hM hN hS hy T.a T.e T.th T.k (fun r e => ?_) (fun r e => ?_) (hc.trans (coef_eq i j)) h
  · rcases hKB with ⟨h8, rfl⟩ | rfl
    · have := Hk.slotsCov b (by rw [ck]; exact h8) k₁ r e
      rwa [ck] at this
    · have := Hk.slots b k₁ r e
      rwa [ck] at this
  · rcases hVB with ⟨h8, rfl⟩ | rfl
    · have := Hv.slotsCov b (by rw [cv]; exact h8) k₂ r e
      rwa [cv] at this
    · have := Hv.slots b k₂ r e
      rwa [cv] at this

/-! ## One grid point -/

/-- What the body's operands read when it starts at grid point `i`. -/
structure Point (A : Arrays) (c : Dev nD) (i : grid0.Coords)
    (M1 : Memref sig .tc .vmem S4x16x256 .f32) (M2 : Memref sig .tc .vmem S4x16x256 .f32) (M3 : Memref sig .tc .vmem S4x16x256 .f32) (M4 : Memref sig .tc .vmem S4x256x256 .f32) (M5 : Memref sig .tc .vmem S4x256x256 .f32) (M6 : Memref sig .tc .vmem S2x256 .f32) (M7 : Memref sig .tc .vmem S256x256 .bf16) (M8 : Memref sig .tc .vmem S1x256 .f32) (M9 : Memref sig .tc .vmem S256x256 .bf16) (M10 : Memref sig .tc .vmem S1x256 .f32) (M11 : Memref sig .tc .vmem S256x256 .bf16) (M12 : Memref sig .tc .vmem S1x256 .f32) (M13 : Memref sig .tc .vmem S256x1 .bf16) (M14 : Memref sig .tc .vmem S1x1 .f32) (M15 : Memref sig .tc .vmem S256x256 .bf16) (M16 : Memref sig .tc .vmem S1x256 .f32) (M18 : Memref sig .tc .vmem S4x256x256 .f32) (M19 : Memref sig .tc .vmem S4x256x256 .f32) (M20 : Memref sig .tc .vmem S4x8x256 .bf16) (M21 : Memref sig .tc .vmem S4x8x256 .f32)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f18 : Bf (F := Ideal) c M18) (f19 : Bf (F := Ideal) c M19) (f20 : Bf (F := Ideal) c M20) (f21 : Bf (F := Ideal) c M21) : Prop where
  x : ∀ b (j : Fin 16) d, M1.view.read (Elt Ideal) f1 (ix3 b j d) = A.x b (16 * (i 0).val + j) d
  k : ∀ b (j : Fin 16) d, M2.view.read (Elt Ideal) f2 (ix3 b j d) = A.k b (16 * (i 0).val + j) d
  v : ∀ b (j : Fin 16) d, M3.view.read (Elt Ideal) f3 (ix3 b j d) = A.v b (16 * (i 0).val + j) d
  M0 : ∀ b e d, M4.view.read (Elt Ideal) f4 (ix3 b e d) = A.M0 b e d
  S0 : ∀ b e d, M5.view.read (Elt Ideal) f5 (ix3 b e d) = A.S0 b e d
  p : ∀ r d, M6.view.read (Elt Ideal) f6 (ix2 r d) = A.p r d
  aW : ∀ r d, M7.view.read (Elt Ideal) f7 (ix2 r d) = A.aW r d
  ab : ∀ d, M8.view.read (Elt Ideal) f8 (ix2 0 d) = A.ab d
  eW : ∀ r d, M9.view.read (Elt Ideal) f9 (ix2 r d) = A.eW r d
  eb : ∀ d, M10.view.read (Elt Ideal) f10 (ix2 0 d) = A.eb d
  tW : ∀ r d, M11.view.read (Elt Ideal) f11 (ix2 r d) = A.tW r d
  tb : ∀ d, M12.view.read (Elt Ideal) f12 (ix2 0 d) = A.tb d
  gW : ∀ r, M13.view.read (Elt Ideal) f13 (ix2 r 0) = A.gW r
  gb : M14.view.read (Elt Ideal) f14 (ix2 0 0) = A.gb
  oW : ∀ r d, M15.view.read (Elt Ideal) f15 (ix2 r d) = A.oW r d
  ob : ∀ d, M16.view.read (Elt Ideal) f16 (ix2 0 d) = A.ob d
  M : (i 0).val ≠ 0 → ∀ b e d, M18.view.read (Elt Ideal) f18 (ix3 b e d) = (A.st b (16 * (i 0).val)).1 e d
  S : (i 0).val ≠ 0 → ∀ b e d, M19.view.read (Elt Ideal) f19 (ix3 b e d) = (A.st b (16 * (i 0).val)).2 e d
  rk : (i 0).val ≠ 0 → ∀ b r d, M20.view.read (Elt Ideal) f20 (ix3 b r d) = ring (0 : EReal) (A.rows b).gk (16 * (i 0).val) r d
  rv : (i 0).val ≠ 0 → ∀ b r d, M21.view.read (Elt Ideal) f21 (ix3 b r d) = ring (0 : EReal) (A.rows b).gv (16 * (i 0).val) r d

/-- The zero the feature ring starts from. -/
theorem bf16_zero : Ideal.ofBits .bf16 0#16 = 0 := by simp [Ideal.ofBits, Ideal.ieee]

/-- Before the first push every slot is empty. -/
theorem ring_zero {α : Type} (z : α) (x : ℕ → Fin 256 → α) (r : Fin 8) (c : Fin 256) : ring z x 0 r c = z := rfl

section Kernel

variable {A : Arrays} {c : Dev nD} {i : grid0.Coords}
variable {M1 : Memref sig .tc .vmem S4x16x256 .f32} {M2 : Memref sig .tc .vmem S4x16x256 .f32} {M3 : Memref sig .tc .vmem S4x16x256 .f32} {M4 : Memref sig .tc .vmem S4x256x256 .f32} {M5 : Memref sig .tc .vmem S4x256x256 .f32} {M6 : Memref sig .tc .vmem S2x256 .f32} {M7 : Memref sig .tc .vmem S256x256 .bf16} {M8 : Memref sig .tc .vmem S1x256 .f32} {M9 : Memref sig .tc .vmem S256x256 .bf16} {M10 : Memref sig .tc .vmem S1x256 .f32} {M11 : Memref sig .tc .vmem S256x256 .bf16} {M12 : Memref sig .tc .vmem S1x256 .f32} {M13 : Memref sig .tc .vmem S256x1 .bf16} {M14 : Memref sig .tc .vmem S1x1 .f32} {M15 : Memref sig .tc .vmem S256x256 .bf16} {M16 : Memref sig .tc .vmem S1x256 .f32} {M18 : Memref sig .tc .vmem S4x256x256 .f32} {M19 : Memref sig .tc .vmem S4x256x256 .f32} {M20 : Memref sig .tc .vmem S4x8x256 .bf16} {M21 : Memref sig .tc .vmem S4x8x256 .f32}
variable {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f18 : Bf (F := Ideal) c M18} {f19 : Bf (F := Ideal) c M19} {f20 : Bf (F := Ideal) c M20} {f21 : Bf (F := Ideal) c M21}
variable (P : Point A c i M1 M2 M3 M4 M5 M6 M7 M8 M9 M10 M11 M12 M13 M14 M15 M16 M18 M19 M20 M21 f1 f2 f3 f4 f5 f6 f7 f8 f9 f10 f11 f12 f13 f14 f15 f16 f18 f19 f20 f21)
include P

/-- The state block of the memory as the steps find it. -/
theorem Point.startM (b : Fin 4) (e d : Fin 256) :
    M18.view.read (Elt Ideal) (if _ : kernelRun.sl.v2 i = 1#1 then
      M18.view.writes (Elt Ideal) f18 [⟨Rect.unit ![0, 0, 0] S4x256x256.size inb_S4x256x256_S4x256x256_0_0_0, kernelRun.sl.v3820 c M4 f4⟩] else f18)
      (ix3 b e d) = (A.st b (16 * (i 0).val)).1 e d :=
  guarded M18.view f18 i _ _ (fun b e d => (A.st b (16 * (i 0).val)).1 e d)
    (fun h b e d => by rw [h]; exact (block3 _ _ _ _ _ _ _).trans (P.M0 b e d)) P.M b e d

/-- The state block of the momentum as the steps find it. -/
theorem Point.startS (b : Fin 4) (e d : Fin 256) :
    M19.view.read (Elt Ideal) (if _ : kernelRun.sl.v2 i = 1#1 then
      M19.view.writes (Elt Ideal) f19 [⟨Rect.unit ![0, 0, 0] S4x256x256.size inb_S4x256x256_S4x256x256_0_0_0, kernelRun.sl.v3823 c M5 f5⟩] else f19)
      (ix3 b e d) = (A.st b (16 * (i 0).val)).2 e d :=
  guarded M19.view f19 i _ _ (fun b e d => (A.st b (16 * (i 0).val)).2 e d)
    (fun h b e d => by rw [h]; exact (block3 _ _ _ _ _ _ _).trans (P.S0 b e d)) P.S b e d

/-- The ring of feature rows as the steps find it. -/
theorem Point.startK (b : Fin 4) (r : Fin 8) (d : Fin 256) :
    M20.view.read (Elt Ideal) (base20 c i M20 f20) (ix3 b r d) = ring (0 : EReal) (A.rows b).gk (16 * (i 0).val) r d :=
  guarded M20.view f20 i _ _ (fun b r d => ring (0 : EReal) (A.rows b).gk (16 * (i 0).val) r d)
    (fun h b r d => by
      rw [h]
      refine (shapeCast_apply _ _ (ix3 b r d) (ix3 b r d) rfl).trans ?_
      exact bf16_zero) P.rk b r d

/-- The ring of value rows as the steps find it. -/
theorem Point.startV (b : Fin 4) (r : Fin 8) (d : Fin 256) :
    M21.view.read (Elt Ideal) (if _ : kernelRun.sl.v2 i = 1#1 then
      M21.view.writes (Elt Ideal) f21 [⟨Rect.unit ![0, 0, 0] S4x8x256.size inb_S4x8x256_S4x8x256_0_0_0, kernelRun.sl.v3832 (F := Ideal)⟩] else f21)
      (ix3 b r d) = ring (0 : EReal) (A.rows b).gv (16 * (i 0).val) r d :=
  guarded M21.view f21 i _ _ (fun b r d => ring (0 : EReal) (A.rows b).gv (16 * (i 0).val) r d)
    (fun h b r d => by
      rw [h]
      refine (shapeCast_apply _ _ (ix3 b r d) (ix3 b r d) rfl).trans ?_
      exact Ideal.ofBits_zero_f32) P.rv b r d

/-- The gated feature tiles. -/
theorem Point.keys : ∀ b (j : Fin 16) d, keyTiles c M1 M2 M6 M13 M14 f1 f2 f6 f13 f14 b (ix2 j d) = (A.rows b).gk (16 * (i 0).val + j) d := by
  intro b j d
  match b with
  | ⟨0, _⟩ => exact congrArg₂ (· * ·) (root_of P.x P.gW P.gb 0 rfl j d) (feat_of P.k P.p 0 rfl rfl j d)
  | ⟨1, _⟩ => exact congrArg₂ (· * ·) (root_of P.x P.gW P.gb 1 rfl j d) (feat_of P.k P.p 1 rfl rfl j d)
  | ⟨2, _⟩ => exact congrArg₂ (· * ·) (root_of P.x P.gW P.gb 2 rfl j d) (feat_of P.k P.p 2 rfl rfl j d)
  | ⟨3, _⟩ => exact congrArg₂ (· * ·) (root_of P.x P.gW P.gb 3 rfl j d) (feat_of P.k P.p 3 rfl rfl j d)

/-- The gated value tiles. -/
theorem Point.vals : ∀ b (j : Fin 16) d, valTiles c M1 M3 M13 M14 f1 f3 f13 f14 b (ix2 j d) = (A.rows b).gv (16 * (i 0).val + j) d := by
  intro b j d
  match b with
  | ⟨0, _⟩ => exact congrArg₂ (· * ·) (root_of P.x P.gW P.gb 0 rfl j d) ((load3 _ _ 0 _ _ j d).trans (P.v 0 j d))
  | ⟨1, _⟩ => exact congrArg₂ (· * ·) (root_of P.x P.gW P.gb 1 rfl j d) ((load3 _ _ 1 _ _ j d).trans (P.v 1 j d))
  | ⟨2, _⟩ => exact congrArg₂ (· * ·) (root_of P.x P.gW P.gb 2 rfl j d) ((load3 _ _ 2 _ _ j d).trans (P.v 2 j d))
  | ⟨3, _⟩ => exact congrArg₂ (· * ·) (root_of P.x P.gW P.gb 3 rfl j d) ((load3 _ _ 3 _ _ j d).trans (P.v 3 j d))

/-- The body's stores of feature rows keep the ring. -/
theorem Point.keysHold : AllHolds (Val := Elt Ideal) M20.view (base20 c i M20 f20) (0 : EReal) (fun b => (A.rows b).gk) (i 0).val pairs
    (kernelRun.sl.H20_64 c i M1 M2 M6 M13 M14 M20 f1 f2 f6 f13 f14 f20) 64 := keys_hold P.keys P.startK

/-- The body's stores of value rows keep the ring. -/
theorem Point.valsHold : AllHolds (Val := Elt Ideal) M21.view (if _ : kernelRun.sl.v2 i = 1#1 then
      M21.view.writes (Elt Ideal) f21 [⟨Rect.unit ![0, 0, 0] S4x8x256.size inb_S4x8x256_S4x8x256_0_0_0, kernelRun.sl.v3832 (F := Ideal)⟩] else f21)
    (0 : EReal) (fun b => (A.rows b).gv) (i 0).val (fun p => p)
    (kernelRun.sl.H21_64 c M1 M3 M13 M14 f1 f3 f13 f14) 64 := vals_hold P.vals P.startV

end Kernel

end Cert.Atlas

end
-- ==== Proof.Unrolled.lean ====
/-
The unrolled steps of the four batches and what they leave: the memory, the momentum and the projected output rows.
-/
module

public import proofs.«01_k».proof.Proof.Chain

@[expose] public section

set_option maxRecDepth 16384

noncomputable section

namespace Cert.Atlas

open Idealize.ShloMosaic Idealize.ShloMosaic.ValueIdx
open Cert.KernelIdeal Cert.KernelIdeal.Gen Cert.KernelIdeal.Body
open scoped BigOperators

section Kernel

variable {A : Arrays} {c : Dev nD} {i : grid0.Coords}
variable {M1 : Memref sig .tc .vmem S4x16x256 .f32} {M2 : Memref sig .tc .vmem S4x16x256 .f32} {M3 : Memref sig .tc .vmem S4x16x256 .f32} {M4 : Memref sig .tc .vmem S4x256x256 .f32} {M5 : Memref sig .tc .vmem S4x256x256 .f32} {M6 : Memref sig .tc .vmem S2x256 .f32} {M7 : Memref sig .tc .vmem S256x256 .bf16} {M8 : Memref sig .tc .vmem S1x256 .f32} {M9 : Memref sig .tc .vmem S256x256 .bf16} {M10 : Memref sig .tc .vmem S1x256 .f32} {M11 : Memref sig .tc .vmem S256x256 .bf16} {M12 : Memref sig .tc .vmem S1x256 .f32} {M13 : Memref sig .tc .vmem S256x1 .bf16} {M14 : Memref sig .tc .vmem S1x1 .f32} {M15 : Memref sig .tc .vmem S256x256 .bf16} {M16 : Memref sig .tc .vmem S1x256 .f32} {M17 : Memref sig .tc .vmem S4x16x256 .f32} {M18 : Memref sig .tc .vmem S4x256x256 .f32} {M19 : Memref sig .tc .vmem S4x256x256 .f32} {M20 : Memref sig .tc .vmem S4x8x256 .bf16} {M21 : Memref sig .tc .vmem S4x8x256 .f32}
variable {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f18 : Bf (F := Ideal) c M18} {f19 : Bf (F := Ideal) c M19} {f20 : Bf (F := Ideal) c M20} {f21 : Bf (F := Ideal) c M21}
variable (P : Point A c i M1 M2 M3 M4 M5 M6 M7 M8 M9 M10 M11 M12 M13 M14 M15 M16 M18 M19 M20 M21 f1 f2 f3 f4 f5 f6 f7 f8 f9 f10 f11 f12 f13 f14 f15 f16 f18 f19 f20 f21)
include P

/-- The gate tiles of the four batches. -/
theorem Point.tiles :
    Tiles A (i 0).val 0 (kernelRun.sl.v31 c M1 M7 M8 f1 f7 f8) (kernelRun.sl.v39 c M1 M9 M10 f1 f9 f10) (kernelRun.sl.v45 c M1 M11 M12 f1 f11 f12) (kernelRun.sl.v53 c M2 M6 f2 f6) ∧
    Tiles A (i 0).val 1 (kernelRun.sl.v79 c M1 M7 M8 f1 f7 f8) (kernelRun.sl.v87 c M1 M9 M10 f1 f9 f10) (kernelRun.sl.v93 c M1 M11 M12 f1 f11 f12) (kernelRun.sl.v101 c M2 M6 f2 f6) ∧
    Tiles A (i 0).val 2 (kernelRun.sl.v127 c M1 M7 M8 f1 f7 f8) (kernelRun.sl.v135 c M1 M9 M10 f1 f9 f10) (kernelRun.sl.v141 c M1 M11 M12 f1 f11 f12) (kernelRun.sl.v149 c M2 M6 f2 f6) ∧
    Tiles A (i 0).val 3 (kernelRun.sl.v175 c M1 M7 M8 f1 f7 f8) (kernelRun.sl.v183 c M1 M9 M10 f1 f9 f10) (kernelRun.sl.v189 c M1 M11 M12 f1 f11 f12) (kernelRun.sl.v197 c M2 M6 f2 f6) := by
  refine ⟨⟨?_, ?_, ?_, ?_⟩, ⟨?_, ?_, ?_, ?_⟩, ⟨?_, ?_, ?_, ?_⟩, ⟨?_, ?_, ?_, ?_⟩⟩
  · exact gate_of P.x P.aW P.ab 0 rfl
  · exact fun j d => congrArg₂ (· * ·) (gate_of P.x P.eW P.eb 0 rfl j d) rfl
  · exact gate_of P.x P.tW P.tb 0 rfl
  · exact feat_of P.k P.p 0 rfl rfl
  · exact gate_of P.x P.aW P.ab 1 rfl
  · exact fun j d => congrArg₂ (· * ·) (gate_of P.x P.eW P.eb 1 rfl j d) rfl
  · exact gate_of P.x P.tW P.tb 1 rfl
  · exact feat_of P.k P.p 1 rfl rfl
  · exact gate_of P.x P.aW P.ab 2 rfl
  · exact fun j d => congrArg₂ (· * ·) (gate_of P.x P.eW P.eb 2 rfl j d) rfl
  · exact gate_of P.x P.tW P.tb 2 rfl
  · exact feat_of P.k P.p 2 rfl rfl
  · exact gate_of P.x P.aW P.ab 3 rfl
  · exact fun j d => congrArg₂ (· * ·) (gate_of P.x P.eW P.eb 3 rfl j d) rfl
  · exact gate_of P.x P.tW P.tb 3 rfl
  · exact feat_of P.k P.p 3 rfl rfl

set_option maxHeartbeats 8000000 in
/-- The sixteen steps of the four batches. -/
theorem Point.steps :
    Done A (i 0).val 0 (kernelRun.sl.v3689 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3608 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3757 c i M1 M2 M3 M4 M5 M6 M7 M8 M9 M10 M11 M12 M13 M14 M18 M19 M20 M21 f1 f2 f3 f4 f5 f6 f7 f8 f9 f10 f11 f12 f13 f14 f18 f19 f20 f21) ∧
    Done A (i 0).val 1 (kernelRun.sl.v3709 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3614 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3773 c i M1 M2 M3 M4 M5 M6 M7 M8 M9 M10 M11 M12 M13 M14 M18 M19 M20 M21 f1 f2 f3 f4 f5 f6 f7 f8 f9 f10 f11 f12 f13 f14 f18 f19 f20 f21) ∧
    Done A (i 0).val 2 (kernelRun.sl.v3729 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3620 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3789 c i M1 M2 M3 M4 M5 M6 M7 M8 M9 M10 M11 M12 M13 M14 M18 M19 M20 M21 f1 f2 f3 f4 f5 f6 f7 f8 f9 f10 f11 f12 f13 f14 f18 f19 f20 f21) ∧
    Done A (i 0).val 3 (kernelRun.sl.v3749 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3626 c i M1 M2 M3 M4 M5 M6 M7 M8 M9 M10 M11 M12 M13 M14 M18 M19 M20 M21 f1 f2 f3 f4 f5 f6 f7 f8 f9 f10 f11 f12 f13 f14 f18 f19 f20 f21)
      (kernelRun.sl.v3805 c i M1 M2 M3 M4 M5 M6 M7 M8 M9 M10 M11 M12 M13 M14 M18 M19 M20 M21 f1 f2 f3 f4 f5 f6 f7 f8 f9 f10 f11 f12 f13 f14 f18 f19 f20 f21) := by
  have hk := P.keysHold
  have hv := P.valsHold
  have on : ∀ {p q : Prop}, p → (p → q) → q := fun h f => f h
  obtain ⟨t₀, t₁, t₂, t₃⟩ := P.tiles
  refine ⟨on t₀ ?_, on t₁ ?_, on t₂ ?_, on t₃ ?_⟩
  all_goals
    intro T
    refine ⟨![_, _, _, _, _, _, _, _, _, _, _, _, _, _, _, _], ?_, _, rfl⟩
    iterate 16
      refine Chain.next hk hv T (by decide) rfl rfl rfl rfl rfl rfl
        (by first | (refine .inl ⟨by decide, ?_⟩; rfl) | exact .inr rfl)
        (by first | (refine .inl ⟨by decide, ?_⟩; rfl) | exact .inr rfl) rfl ?_
    refine ⟨fun e d => Eq.trans ?_ (P.startM _ e d), fun e d => Eq.trans ?_ (P.startS _ e d), fun _ h => absurd h (Nat.not_lt_zero _)⟩
    · first | exact load3 M18.view _ 0 _ _ e d | exact load3 M18.view _ 1 _ _ e d | exact load3 M18.view _ 2 _ _ e d | exact load3 M18.view _ 3 _ _ e d
    · first | exact load3 M19.view _ 0 _ _ e d | exact load3 M19.view _ 1 _ _ e d | exact load3 M19.view _ 2 _ _ e d | exact load3 M19.view _ 3 _ _ e d

/-- The memory the grid point leaves. -/
theorem Point.endM (b : Fin 4) (e d : Fin 256) : M18.view.read (Elt Ideal) (M18.view.writes (Elt Ideal) M18.view.junk
    (kernelRun.sl.H18_4 c i M1 M2 M3 M4 M5 M6 M7 M8 M9 M10 M11 M12 M13 M14 M18 M19 M20 M21 f1 f2 f3 f4 f5 f6 f7 f8 f9 f10 f11 f12 f13 f14 f18 f19 f20 f21)) (ix3 b e d) = (A.st b (16 * (i 0).val + 16)).1 e d := by
  obtain ⟨⟨_, h₀, -⟩, ⟨_, h₁, -⟩, ⟨_, h₂, -⟩, ⟨_, h₃, -⟩⟩ := P.steps
  exact batches (Val := Elt Ideal) M18.view _ (fun b e d => (A.st b (16 * (i 0).val + 16)).1 e d) rfl rfl rfl rfl rfl h₀.M h₁.M h₂.M h₃.M b e d

/-- The momentum the grid point leaves. -/
theorem Point.endS (b : Fin 4) (e d : Fin 256) : M19.view.read (Elt Ideal) (M19.view.writes (Elt Ideal) M19.view.junk
    (kernelRun.sl.H19_4 c i M1 M2 M3 M4 M5 M6 M7 M8 M9 M10 M11 M12 M13 M14 M18 M19 M20 M21 f1 f2 f3 f4 f5 f6 f7 f8 f9 f10 f11 f12 f13 f14 f18 f19 f20 f21)) (ix3 b e d) = (A.st b (16 * (i 0).val + 16)).2 e d := by
  obtain ⟨⟨_, h₀, -⟩, ⟨_, h₁, -⟩, ⟨_, h₂, -⟩, ⟨_, h₃, -⟩⟩ := P.steps
  exact batches (Val := Elt Ideal) M19.view _ (fun b e d => (A.st b (16 * (i 0).val + 16)).2 e d) rfl rfl rfl rfl rfl h₀.S h₁.S h₂.S h₃.S b e d

omit P in
/-- A batch's projected rows from its steps. -/
theorem Done.out {t : ℕ} {b : Fin 4} {M S : FVec Ideal S256x256 .f32} {Y O : FVec Ideal S16x256 .f32} (h : Done A t b M S Y)
    {W : FVec Ideal S256x256 .bf16} {B : FVec Ideal S1x256 .f32} (hW : ∀ i j, W (ix2 i j) = A.oW i j) (hB : ∀ d, B (ix2 0 d) = A.ob d) {s₁ s₂}
    (hO : O = addf (matmul dot_S16x256_S256x256_S16x256_1_1_0_0_n_n none (truncf .bf16 Y s₁) W
      (constant S16x256 .f32 0x00000000#32)) (broadcastTo S16x256 B s₂)) :
    ∀ (j : Fin 16) d, O (ix2 j d) = A.out b (16 * t + j) d := by
  obtain ⟨y, h, hc, hY⟩ := h
  exact proj hW hB (stack hY) (fun n d => h.y n n.isLt d) hO

/-- The output rows the grid point leaves. -/
theorem Point.endO (b : Fin 4) (j : Fin 16) (d : Fin 256) : M17.view.read (Elt Ideal) (M17.view.writes (Elt Ideal) M17.view.junk
    (kernelRun.sl.H17_4 c i M1 M2 M3 M4 M5 M6 M7 M8 M9 M10 M11 M12 M13 M14 M15 M16 M18 M19 M20 M21 f1 f2 f3 f4 f5 f6 f7 f8 f9 f10 f11 f12 f13 f14 f15 f16 f18 f19 f20 f21)) (ix3 b j d) = A.out b (16 * (i 0).val + j) d := by
  obtain ⟨h₀, h₁, h₂, h₃⟩ := P.steps
  have hW : ∀ r d, kernelRun.sl.v3752 c M15 f15 (ix2 r d) = A.oW r d := fun r d => (load2 M15.view f15 _ _ r d).trans (P.oW r d)
  have hB : ∀ d, kernelRun.sl.v3754 c M16 f16 (ix2 0 d) = A.ob d := fun d => (load2 M16.view f16 _ _ 0 d).trans (P.ob d)
  refine batches (Val := Elt Ideal) M17.view _ (fun b (j : Fin 16) d => A.out b (16 * (i 0).val + j) d) rfl rfl rfl rfl rfl ?_ ?_ ?_ ?_ b j d
  · exact h₀.out hW hB rfl
  · exact h₁.out hW hB rfl
  · exact h₂.out hW hB rfl
  · exact h₃.out hW hB rfl

/-- The ring of feature rows the grid point leaves. -/
theorem Point.endK (b : Fin 4) (r : Fin 8) (d : Fin 256) : M20.view.read (Elt Ideal) (M20.view.writes (Elt Ideal) M20.view.junk
    (kernelRun.sl.H20_64 c i M1 M2 M6 M13 M14 M20 f1 f2 f6 f13 f14 f20)) (ix3 b r d) = ring (0 : EReal) (A.rows b).gk (16 * (i 0).val + 16) r d := by
  have h := P.keysHold 0 (Nat.zero_le _)
  have hc : count b 64 = 16 := by unfold count; omega
  refine (h.indep M20.view.junk b r d ?_).trans ((h.val b r d).trans ?_)
  · rw [hc]; exact Nat.lt_of_lt_of_le r.isLt (by decide)
  · rw [hc]

/-- The ring of value rows the grid point leaves. -/
theorem Point.endV (b : Fin 4) (r : Fin 8) (d : Fin 256) : M21.view.read (Elt Ideal) (M21.view.writes (Elt Ideal) M21.view.junk
    (kernelRun.sl.H21_64 c M1 M3 M13 M14 f1 f3 f13 f14)) (ix3 b r d) = ring (0 : EReal) (A.rows b).gv (16 * (i 0).val + 16) r d := by
  have h := P.valsHold 0 (Nat.zero_le _)
  have hc : count b 64 = 16 := by unfold count; omega
  refine (h.indep M21.view.junk b r d ?_).trans ((h.val b r d).trans ?_)
  · rw [hc]; exact Nat.lt_of_lt_of_le r.isLt (by decide)
  · rw [hc]

end Kernel

end Cert.Atlas

end
-- ==== Proof.Blocks.lean ====
/-
What each window's block is of its array, at one grid point.
-/
module

public import proofs.«01_k».proof.Proof.IdealFrame
public import proofs.«01_k».proof.Proof.Unrolled
public import Idealize.ShloMosaic.Lib.Pipeline.ValueKit

@[expose] public section

set_option maxRecDepth 16384

noncomputable section

namespace Cert.KernelIdeal.Body

open Cert.KernelIdeal Cert.KernelIdeal.Gen
open Idealize.ShloMosaic hiding ix1 ix2 ix3
open Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ)

/-- The grid has one axis, the point itself. -/
theorem coords_val : ∀ t : Fin cfg0.N, ((grid0.coords t) 0).val = t.val := by decide +kernel

theorem N_eq : cfg0.N = 16 := N_0

/-! Where each window's block lies: the first three and the output walk along the rows, the others stay. -/

/-! Where each window's block lies: the first three and the output walk along the rows, the others stay. -/

/-! Where each window's block lies: the first three and the output walk along the rows, the others stay. -/

/-! Where each window's block lies: the first three and the output walk along the rows, the others stay. -/

/-! Where each window's block lies: the first three and the output walk along the rows, the others stay. -/

/-! Where each window's block lies: the first three and the output walk along the rows, the others stay. -/

theorem index_0 : ∀ t : Fin cfg0.N, win0_0.index t = ![0, t.val, 0] := by decide +kernel
theorem index_1 : ∀ t : Fin cfg0.N, win0_1.index t = ![0, t.val, 0] := by decide +kernel
theorem index_2 : ∀ t : Fin cfg0.N, win0_2.index t = ![0, t.val, 0] := by decide +kernel
theorem index_16 : ∀ t : Fin cfg0.N, win0_16.index t = ![0, t.val, 0] := by decide +kernel
theorem index_3 : ∀ t : Fin cfg0.N, win0_3.index t = ![0, 0, 0] := by decide +kernel
theorem index_4 : ∀ t : Fin cfg0.N, win0_4.index t = ![0, 0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![0, 0] := by decide +kernel
theorem index_12 : ∀ t : Fin cfg0.N, win0_12.index t = ![0, 0] := by decide +kernel
theorem index_13 : ∀ t : Fin cfg0.N, win0_13.index t = ![0, 0] := by decide +kernel
theorem index_14 : ∀ t : Fin cfg0.N, win0_14.index t = ![0, 0] := by decide +kernel
theorem index_15 : ∀ t : Fin cfg0.N, win0_15.index t = ![0, 0] := by decide +kernel
theorem index_17 : ∀ t : Fin cfg0.N, win0_17.index t = ![0, 0, 0] := by decide +kernel
theorem index_18 : ∀ t : Fin cfg0.N, win0_18.index t = ![0, 0, 0] := by decide +kernel

/-- The rows of operand 0 at one grid point. -/
theorem iblk_0 (c : Dev nD) (t : Fin cfg0.N) (b : Fin 4) (j : Fin 16) (d : Fin 256) (h : 16 * t.val + j < 256) :
    (iblk m c 0 t : Vec Ideal S4x16x256 .f32) (ix3 b j d) = (V m c main_arg0 : Vec Ideal S4x256x256 .f32) (ix3 b ⟨16 * t.val + j, h⟩ d) := by
  unfold iblk
  blk_simp
  refine congrArg _ (funext fun a => Fin.ext ?_)
  fin_cases a <;> blk_simp [index_0] <;> first | rfl | exact congrArg (· + j.val) (Nat.mul_comm _ 16)

/-- The rows of operand 1 at one grid point. -/
theorem iblk_1 (c : Dev nD) (t : Fin cfg0.N) (b : Fin 4) (j : Fin 16) (d : Fin 256) (h : 16 * t.val + j < 256) :
    (iblk m c 1 t : Vec Ideal S4x16x256 .f32) (ix3 b j d) = (V m c main_arg1 : Vec Ideal S4x256x256 .f32) (ix3 b ⟨16 * t.val + j, h⟩ d) := by
  unfold iblk
  blk_simp
  refine congrArg _ (funext fun a => Fin.ext ?_)
  fin_cases a <;> blk_simp [index_1] <;> first | rfl | exact congrArg (· + j.val) (Nat.mul_comm _ 16)

/-- The rows of operand 2 at one grid point. -/
theorem iblk_2 (c : Dev nD) (t : Fin cfg0.N) (b : Fin 4) (j : Fin 16) (d : Fin 256) (h : 16 * t.val + j < 256) :
    (iblk m c 2 t : Vec Ideal S4x16x256 .f32) (ix3 b j d) = (V m c main_arg2 : Vec Ideal S4x256x256 .f32) (ix3 b ⟨16 * t.val + j, h⟩ d) := by
  unfold iblk
  blk_simp
  refine congrArg _ (funext fun a => Fin.ext ?_)
  fin_cases a <;> blk_simp [index_2] <;> first | rfl | exact congrArg (· + j.val) (Nat.mul_comm _ 16)

/-- Operand 3 is its array at every grid point. -/
theorem iblk_3 (c : Dev nD) (t : Fin cfg0.N) : iblk m c 3 t = V m c main_call0_v0 := by
  blk_ext! [iblk, index_3]

/-- Operand 4 is its array at every grid point. -/
theorem iblk_4 (c : Dev nD) (t : Fin cfg0.N) : iblk m c 4 t = V m c main_call0_v1 := by
  blk_ext! [iblk, index_4]

/-- Operand 5 is its array at every grid point. -/
theorem iblk_5 (c : Dev nD) (t : Fin cfg0.N) : iblk m c 5 t = V m c main_arg5 := by
  blk_ext! [iblk, index_5]

/-- Operand 6 is its array at every grid point. -/
theorem iblk_6 (c : Dev nD) (t : Fin cfg0.N) : iblk m c 6 t = V m c main_call0_v2 := by
  blk_ext! [iblk, index_6]

/-- Operand 7 is its array at every grid point. -/
theorem iblk_7 (c : Dev nD) (t : Fin cfg0.N) : iblk m c 7 t = V m c main_call0_v3 := by
  blk_ext! [iblk, index_7]

/-- Operand 8 is its array at every grid point. -/
theorem iblk_8 (c : Dev nD) (t : Fin cfg0.N) : iblk m c 8 t = V m c main_call0_v4 := by
  blk_ext! [iblk, index_8]

/-- Operand 9 is its array at every grid point. -/
theorem iblk_9 (c : Dev nD) (t : Fin cfg0.N) : iblk m c 9 t = V m c main_call0_v5 := by
  blk_ext! [iblk, index_9]

/-- Operand 10 is its array at every grid point. -/
theorem iblk_10 (c : Dev nD) (t : Fin cfg0.N) : iblk m c 10 t = V m c main_call0_v6 := by
  blk_ext! [iblk, index_10]

/-- Operand 11 is its array at every grid point. -/
theorem iblk_11 (c : Dev nD) (t : Fin cfg0.N) : iblk m c 11 t = V m c main_call0_v7 := by
  blk_ext! [iblk, index_11]

/-- Operand 12 is its array at every grid point. -/
theorem iblk_12 (c : Dev nD) (t : Fin cfg0.N) : iblk m c 12 t = V m c main_call0_v9 := by
  blk_ext! [iblk, index_12]

/-- Operand 13 is its array at every grid point. -/
theorem iblk_13 (c : Dev nD) (t : Fin cfg0.N) : iblk m c 13 t = V m c main_call0_v10 := by
  blk_ext! [iblk, index_13]

/-- Operand 14 is its array at every grid point. -/
theorem iblk_14 (c : Dev nD) (t : Fin cfg0.N) : iblk m c 14 t = V m c main_call0_v11 := by
  blk_ext! [iblk, index_14]

/-- Operand 15 is its array at every grid point. -/
theorem iblk_15 (c : Dev nD) (t : Fin cfg0.N) : iblk m c 15 t = V m c main_call0_v12 := by
  blk_ext! [iblk, index_15]

/-- An array's rows continued by zero past its end. -/
def pad (X : Vec Ideal S4x256x256 .f32) (b : Fin 4) (n : ℕ) (d : Fin 256) : EReal :=
  if h : n < 256 then X (ix3 b ⟨n, h⟩ d) else 0

/-- Within the array the rows are its own. -/
theorem pad_of (X : Vec Ideal S4x256x256 .f32) (b : Fin 4) (n : ℕ) (d : Fin 256) (h : n < 256) : pad X b n d = X (ix3 b ⟨n, h⟩ d) := dif_pos h

/-- The problem's arrays as the region finds them. -/
def arrays (c : Dev nD) : Cert.Atlas.Arrays where
  x := pad (V m c main_arg0)
  k := pad (V m c main_arg1)
  v := pad (V m c main_arg2)
  M0 b e d := (V m c main_call0_v0 : Vec Ideal S4x256x256 .f32) (ix3 b e d)
  S0 b e d := (V m c main_call0_v1 : Vec Ideal S4x256x256 .f32) (ix3 b e d)
  p r d := (V m c main_arg5 : Vec Ideal S2x256 .f32) (ix2 r d)
  aW r d := (V m c main_call0_v2 : Vec Ideal S256x256 .bf16) (ix2 r d)
  ab d := (V m c main_call0_v3 : Vec Ideal S1x256 .f32) (ix2 0 d)
  eW r d := (V m c main_call0_v4 : Vec Ideal S256x256 .bf16) (ix2 r d)
  eb d := (V m c main_call0_v5 : Vec Ideal S1x256 .f32) (ix2 0 d)
  tW r d := (V m c main_call0_v6 : Vec Ideal S256x256 .bf16) (ix2 r d)
  tb d := (V m c main_call0_v7 : Vec Ideal S1x256 .f32) (ix2 0 d)
  gW r := (V m c main_call0_v9 : Vec Ideal S256x1 .bf16) (ix2 r 0)
  gb := (V m c main_call0_v10 : Vec Ideal S1x1 .f32) (ix2 0 0)
  oW r d := (V m c main_call0_v11 : Vec Ideal S256x256 .bf16) (ix2 r d)
  ob d := (V m c main_call0_v12 : Vec Ideal S1x256 .f32) (ix2 0 d)

/-- The output rows of one grid point. -/
def outBlk (c : Dev nD) (t : ℕ) : Vec Ideal S4x16x256 .f32 := fun j => (arrays m c).out (j 0) (16 * t + (j 1).val) (j 2)
/-- The memory after `n` steps. -/
def memBlk (c : Dev nD) (n : ℕ) : Vec Ideal S4x256x256 .f32 := fun j => ((arrays m c).st (j 0) n).1 (j 1) (j 2)
/-- The momentum after `n` steps. -/
def momBlk (c : Dev nD) (n : ℕ) : Vec Ideal S4x256x256 .f32 := fun j => ((arrays m c).st (j 0) n).2 (j 1) (j 2)
/-- The feature ring after `n` steps. -/
def keyBlk (c : Dev nD) (n : ℕ) : Vec Ideal S4x8x256 .bf16 := fun j => Cert.Atlas.ring (0 : EReal) ((arrays m c).rows (j 0)).gk n (j 1) (j 2)
/-- The value ring after `n` steps. -/
def valBlk (c : Dev nD) (n : ℕ) : Vec Ideal S4x8x256 .f32 := fun j => Cert.Atlas.ring (0 : EReal) ((arrays m c).rows (j 0)).gv n (j 1) (j 2)

/-- Two functions of three coordinates that agree at each are equal. -/
theorem ext3 {α : Type} {p q r : ℕ} {X Y : (⟨3, ![p, q, r]⟩ : Shape).Idx → α} (h : ∀ a b d, X (ix3 a b d) = Y (ix3 a b d)) : X = Y := by
  funext j
  have e : j = ix3 (j 0) (j 1) (j 2) := by funext a; fin_cases a <;> rfl
  rw [e]; exact h _ _ _

/-- The five buffers of the run, each the stores made into it. -/
theorem run_writes (c : Dev nD) (i : grid0.Coords)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f18 : Bf (F := Ideal) c M18) (f19 : Bf (F := Ideal) c M19) (f20 : Bf (F := Ideal) c M20) (f21 : Bf (F := Ideal) c M21) :
    (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1
      = (M17.view.writes (Elt Ideal) M17.view.junk (kernelRun.sl.H17_4 c i M1 M2 M3 M4 M5 M6 M7 M8 M9 M10 M11 M12 M13 M14 M15 M16 M18 M19 M20 M21 f1 f2 f3 f4 f5 f6 f7 f8 f9 f10 f11 f12 f13 f14 f15 f16 f18 f19 f20 f21), M18.view.writes (Elt Ideal) M18.view.junk (kernelRun.sl.H18_4 c i M1 M2 M3 M4 M5 M6 M7 M8 M9 M10 M11 M12 M13 M14 M18 M19 M20 M21 f1 f2 f3 f4 f5 f6 f7 f8 f9 f10 f11 f12 f13 f14 f18 f19 f20 f21), M19.view.writes (Elt Ideal) M19.view.junk (kernelRun.sl.H19_4 c i M1 M2 M3 M4 M5 M6 M7 M8 M9 M10 M11 M12 M13 M14 M18 M19 M20 M21 f1 f2 f3 f4 f5 f6 f7 f8 f9 f10 f11 f12 f13 f14 f18 f19 f20 f21), M20.view.writes (Elt Ideal) M20.view.junk (kernelRun.sl.H20_64 c i M1 M2 M6 M13 M14 M20 f1 f2 f6 f13 f14 f20), M21.view.writes (Elt Ideal) M21.view.junk (kernelRun.sl.H21_64 c M1 M3 M13 M14 f1 f3 f13 f14)) := rfl

/-- What the run leaves in the five buffers it writes, at a grid point that reads the problem's arrays. -/
theorem run_point {A : Cert.Atlas.Arrays} {c : Dev nD} {i : grid0.Coords}
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f18 : Bf (F := Ideal) c M18) (f19 : Bf (F := Ideal) c M19) (f20 : Bf (F := Ideal) c M20) (f21 : Bf (F := Ideal) c M21)
    (P : Cert.Atlas.Point A c i M1 M2 M3 M4 M5 M6 M7 M8 M9 M10 M11 M12 M13 M14 M15 M16 M18 M19 M20 M21 f1 f2 f3 f4 f5 f6 f7 f8 f9 f10 f11 f12 f13 f14 f15 f16 f18 f19 f20 f21) :
    (∀ b j d, M17.view.read (Elt Ideal) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1.1 (ix3 b j d) = A.out b (16 * (i 0).val + j.val) d)
    ∧ (∀ b e d, M18.view.read (Elt Ideal) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1.2.1 (ix3 b e d) = (A.st b (16 * (i 0).val + 16)).1 e d)
    ∧ (∀ b e d, M19.view.read (Elt Ideal) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1.2.2.1 (ix3 b e d) = (A.st b (16 * (i 0).val + 16)).2 e d)
    ∧ (∀ b r d, M20.view.read (Elt Ideal) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1.2.2.2.1 (ix3 b r d) = Cert.Atlas.ring (0 : EReal) (A.rows b).gk (16 * (i 0).val + 16) r d)
    ∧ (∀ b r d, M21.view.read (Elt Ideal) (kernelRun c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 f1 f2 f3 f4 f5 f6 f7 f8 f9 f10 f11 f12 f13 f14 f15 f16 f18 f19 f20 f21).1.2.2.2.2 (ix3 b r d) = Cert.Atlas.ring (0 : EReal) (A.rows b).gv (16 * (i 0).val + 16) r d) := by
  rw [run_writes]
  dsimp only
  exact ⟨P.endO, P.endM, P.endS, P.endK, P.endV⟩

set_option maxHeartbeats 2000000 in
/-- A grid point reads the problem's arrays. -/
theorem point (c : Dev nD) (t : Fin cfg0.N)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (X18 : Vec Ideal S4x256x256 .f32) (X19 : Vec Ideal S4x256x256 .f32) (X20 : Vec Ideal S4x8x256 .bf16) (X21 : Vec Ideal S4x8x256 .f32)
    (g18 : t.val ≠ 0 → X18 = memBlk m c (16 * t.val)) (g19 : t.val ≠ 0 → X19 = momBlk m c (16 * t.val))
    (g20 : t.val ≠ 0 → X20 = keyBlk m c (16 * t.val)) (g21 : t.val ≠ 0 → X21 = valBlk m c (16 * t.val)) :
    Cert.Atlas.Point (arrays m c) c (grid0.coords t) M1 M2 M3 M4 M5 M6 M7 M8 M9 M10 M11 M12 M13 M14 M15 M16 M18 M19 M20 M21
      (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21) where
  x b j d := by
    have hb : 16 * t.val + j.val < 256 := by have := t.isLt; have := N_eq; omega
    rw [coords_val]
    exact ((congrFun (h1.read_unread _) _).trans (iblk_0 m c t b j d hb)).trans (pad_of _ b _ d hb).symm
  k b j d := by
    have hb : 16 * t.val + j.val < 256 := by have := t.isLt; have := N_eq; omega
    rw [coords_val]
    exact ((congrFun (h2.read_unread _) _).trans (iblk_1 m c t b j d hb)).trans (pad_of _ b _ d hb).symm
  v b j d := by
    have hb : 16 * t.val + j.val < 256 := by have := t.isLt; have := N_eq; omega
    rw [coords_val]
    exact ((congrFun (h3.read_unread _) _).trans (iblk_2 m c t b j d hb)).trans (pad_of _ b _ d hb).symm
  M0 b e d := (congrFun (h4.read_unread _) _).trans (congrFun (iblk_3 m c t) _)
  S0 b e d := (congrFun (h5.read_unread _) _).trans (congrFun (iblk_4 m c t) _)
  p r d := (congrFun (h6.read_unread _) _).trans (congrFun (iblk_5 m c t) _)
  aW r d := (congrFun (h7.read_unread _) _).trans (congrFun (iblk_6 m c t) _)
  ab d := (congrFun (h8.read_unread _) _).trans (congrFun (iblk_7 m c t) _)
  eW r d := (congrFun (h9.read_unread _) _).trans (congrFun (iblk_8 m c t) _)
  eb d := (congrFun (h10.read_unread _) _).trans (congrFun (iblk_9 m c t) _)
  tW r d := (congrFun (h11.read_unread _) _).trans (congrFun (iblk_10 m c t) _)
  tb d := (congrFun (h12.read_unread _) _).trans (congrFun (iblk_11 m c t) _)
  gW r := (congrFun (h13.read_unread _) _).trans (congrFun (iblk_12 m c t) _)
  gb  := (congrFun (h14.read_unread _) _).trans (congrFun (iblk_13 m c t) _)
  oW r d := (congrFun (h15.read_unread _) _).trans (congrFun (iblk_14 m c t) _)
  ob d := (congrFun (h16.read_unread _) _).trans (congrFun (iblk_15 m c t) _)
  M ht b e d := by
    rw [coords_val] at ht ⊢
    exact (congrFun (h18.read_unread _) _).trans (congrFun (g18 ht) _)
  S ht b e d := by
    rw [coords_val] at ht ⊢
    exact (congrFun (h19.read_unread _) _).trans (congrFun (g19 ht) _)
  rk ht b e d := by
    rw [coords_val] at ht ⊢
    exact (congrFun (h20.read_unread _) _).trans (congrFun (g20 ht) _)
  rv ht b e d := by
    rw [coords_val] at ht ⊢
    exact (congrFun (h21.read_unread _) _).trans (congrFun (g21 ht) _)

set_option maxHeartbeats 2000000 in
/-- What a grid point leaves in the five buffers it writes. -/
theorem left (c : Dev nD) (t : Fin cfg0.N)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (X18 : Vec Ideal S4x256x256 .f32) (X19 : Vec Ideal S4x256x256 .f32) (X20 : Vec Ideal S4x8x256 .bf16) (X21 : Vec Ideal S4x8x256 .f32)
    (g18 : t.val ≠ 0 → X18 = memBlk m c (16 * t.val)) (g19 : t.val ≠ 0 → X19 = momBlk m c (16 * t.val))
    (g20 : t.val ≠ 0 → X20 = keyBlk m c (16 * t.val)) (g21 : t.val ≠ 0 → X21 = valBlk m c (16 * t.val)) :
    M17.view.read (Elt Ideal) (kernelRun c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21)).1.1 = outBlk m c t.val
    ∧ M18.view.read (Elt Ideal) (kernelRun c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21)).1.2.1 = memBlk m c (16 * t.val + 16)
    ∧ M19.view.read (Elt Ideal) (kernelRun c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21)).1.2.2.1 = momBlk m c (16 * t.val + 16)
    ∧ M20.view.read (Elt Ideal) (kernelRun c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21)).1.2.2.2.1 = keyBlk m c (16 * t.val + 16)
    ∧ M21.view.read (Elt Ideal) (kernelRun c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21)).1.2.2.2.2 = valBlk m c (16 * t.val + 16) := by
  have P := point m c t M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 X18 X19 X20 X21 g18 g19 g20 g21
  obtain ⟨e1, e2, e3, e4, e5⟩ := run_point M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (h1.unread (iblk m c 0 t)) (h2.unread (iblk m c 1 t)) (h3.unread (iblk m c 2 t)) (h4.unread (iblk m c 3 t)) (h5.unread (iblk m c 4 t)) (h6.unread (iblk m c 5 t)) (h7.unread (iblk m c 6 t)) (h8.unread (iblk m c 7 t)) (h9.unread (iblk m c 8 t)) (h10.unread (iblk m c 9 t)) (h11.unread (iblk m c 10 t)) (h12.unread (iblk m c 11 t)) (h13.unread (iblk m c 12 t)) (h14.unread (iblk m c 13 t)) (h15.unread (iblk m c 14 t)) (h16.unread (iblk m c 15 t)) (h18.unread X18) (h19.unread X19) (h20.unread X20) (h21.unread X21) P
  rw [coords_val] at e1 e2 e3 e4 e5
  exact ⟨ext3 e1, ext3 e2, ext3 e3, ext3 e4, ext3 e5⟩

end Cert.KernelIdeal.Body
-- ==== Proof.Result.lean ====
/-
The idealized kernel's run: what its three results hold at the end, as the recurrence of the problem.
-/
module

public import proofs.«01_k».proof.Proof.Blocks

@[expose] public section

set_option maxRecDepth 16384

noncomputable section

namespace Cert.KernelIdeal.Result

open Cert.KernelIdeal Cert.KernelIdeal.Gen Cert.KernelIdeal.Body
open Idealize.ShloMosaic hiding ix1 ix2 ix3
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-- One grid point's run over the blocks it reads, what it leaves named by the recurrence. -/
theorem run_named (c : Dev nD) (t : Fin cfg0.N)
    (M1 : Memref sig .tc .vmem S4x16x256 .f32) (h1 : M1.IsWhole)
    (M2 : Memref sig .tc .vmem S4x16x256 .f32) (h2 : M2.IsWhole)
    (M3 : Memref sig .tc .vmem S4x16x256 .f32) (h3 : M3.IsWhole)
    (M4 : Memref sig .tc .vmem S4x256x256 .f32) (h4 : M4.IsWhole)
    (M5 : Memref sig .tc .vmem S4x256x256 .f32) (h5 : M5.IsWhole)
    (M6 : Memref sig .tc .vmem S2x256 .f32) (h6 : M6.IsWhole)
    (M7 : Memref sig .tc .vmem S256x256 .bf16) (h7 : M7.IsWhole)
    (M8 : Memref sig .tc .vmem S1x256 .f32) (h8 : M8.IsWhole)
    (M9 : Memref sig .tc .vmem S256x256 .bf16) (h9 : M9.IsWhole)
    (M10 : Memref sig .tc .vmem S1x256 .f32) (h10 : M10.IsWhole)
    (M11 : Memref sig .tc .vmem S256x256 .bf16) (h11 : M11.IsWhole)
    (M12 : Memref sig .tc .vmem S1x256 .f32) (h12 : M12.IsWhole)
    (M13 : Memref sig .tc .vmem S256x1 .bf16) (h13 : M13.IsWhole)
    (M14 : Memref sig .tc .vmem S1x1 .f32) (h14 : M14.IsWhole)
    (M15 : Memref sig .tc .vmem S256x256 .bf16) (h15 : M15.IsWhole)
    (M16 : Memref sig .tc .vmem S1x256 .f32) (h16 : M16.IsWhole)
    (M17 : Memref sig .tc .vmem S4x16x256 .f32) (h17 : M17.IsWhole)
    (M18 : Memref sig .tc .vmem S4x256x256 .f32) (h18 : M18.IsWhole)
    (M19 : Memref sig .tc .vmem S4x256x256 .f32) (h19 : M19.IsWhole)
    (M20 : Memref sig .tc .vmem S4x8x256 .bf16) (h20 : M20.IsWhole)
    (M21 : Memref sig .tc .vmem S4x8x256 .f32) (h21 : M21.IsWhole)
    (X17 : Vec Ideal S4x16x256 .f32)
    (X18 : Vec Ideal S4x256x256 .f32) (X19 : Vec Ideal S4x256x256 .f32) (X20 : Vec Ideal S4x8x256 .bf16) (X21 : Vec Ideal S4x8x256 .f32)
    (g18 : t.val ≠ 0 → X18 = memBlk m c (16 * t.val)) (g19 : t.val ≠ 0 → X19 = momBlk m c (16 * t.val))
    (g20 : t.val ≠ 0 → X20 = keyBlk m c (16 * t.val)) (g21 : t.val ≠ 0 → X21 = valBlk m c (16 * t.val)) (E : Set ℕ) (Q : PUnit → sProp 𝕄) :
    iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t) ∗ owns (c : Thread nD τ) M14 fullShare (iblk m c 13 t) ∗ owns (c : Thread nD τ) M15 fullShare (iblk m c 14 t) ∗ owns (c : Thread nD τ) M16 fullShare (iblk m c 15 t) ∗ owns (c : Thread nD τ) M17 fullShare X17 ∗ owns (c : Thread nD τ) M18 fullShare X18 ∗ owns (c : Thread nD τ) M19 fullShare X19 ∗ owns (c : Thread nD τ) M20 fullShare X20 ∗ owns (c : Thread nD τ) M21 fullShare X21
        ∗ (iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t) ∗ owns (c : Thread nD τ) M14 fullShare (iblk m c 13 t) ∗ owns (c : Thread nD τ) M15 fullShare (iblk m c 14 t) ∗ owns (c : Thread nD τ) M16 fullShare (iblk m c 15 t) ∗ owns (c : Thread nD τ) M17 fullShare (outBlk m c t.val) ∗ owns (c : Thread nD τ) M18 fullShare (memBlk m c (16 * t.val + 16)) ∗ owns (c : Thread nD τ) M19 fullShare (momBlk m c (16 * t.val + 16)) ∗ owns (c : Thread nD τ) M20 fullShare (keyBlk m c (16 * t.val + 16)) ∗ owns (c : Thread nD τ) M21 fullShare (valBlk m c (16 * t.val + 16))) -∗ Q ⟨⟩))
      ⊢ wp frame (wpE (defs₀ (F := Ideal)) Variants.none c none) E (cc0_atlas_memory (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  have h := run_owns (F := Ideal) c (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) X17 X18 X19 X20 X21 E Q
  obtain ⟨e1, e2, e3, e4, e5⟩ := left m c t M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 X18 X19 X20 X21 g18 g19 g20 g21
  rw [e1, e2, e3, e4, e5] at h
  exact h

/-- The region's invariant: before the first grid point anything, afterwards the two rings after the steps made so far. -/
def inv (c : Dev nD) (n : ℕ) : sProp 𝕄 :=
  if n = 0 then Pipeline.ΦA spec0 c
  else iprop(iprop(owns (c : Thread nD τ) (Memref.whole cc0_scratch0) fullShare (keyBlk m c (16 * n)) ∗ owns (c : Thread nD τ) (Memref.whole cc0_scratch1) fullShare (valBlk m c (16 * n))) ∗ (∃ r, prngReg c r))

/-- Inputs keep their blocks; the outputs hold the rows of the point and the state after it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outBlk m c t.val
    | ⟨17, _⟩ => memBlk m c (16 * t.val + 16)
    | ⟨18, _⟩ => momBlk m c (16 * t.val + 16)
    | ⟨n + 19, h⟩ => absurd h (Nat.not_lt.mpr (Nat.le_add_left 19 n))
  Φ n := inv m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = outBlk m c t.val := by dsimp only [dats]
theorem after0_17 (c : Dev nD) (t : Fin cfg0.N) : (dats m 0 c).after 17 t = memBlk m c (16 * t.val + 16) := by dsimp only [dats]
theorem after0_18 (c : Dev nD) (t : Fin cfg0.N) : (dats m 0 c).after 18 t = momBlk m c (16 * t.val + 16) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- After the first point the memory window holds what the point before left. -/
theorem before0_17 (c : Dev nD) (t : Fin cfg0.N) (ht : t.val ≠ 0) (d) : (dats m 0 c).before 17 t d = memBlk m c (16 * t.val) := by
  have hl : t.val - 1 < cfg0.N := Nat.lt_of_le_of_lt (Nat.sub_le _ _) t.isLt
  have hf : (cfg0.win 17).flush ⟨t.val - 1, hl⟩ = false := by
    rw [Bool.eq_false_iff]
    intro h
    have := (flush0_17 ⟨t.val - 1, hl⟩).mp h
    have := t.isLt
    have := N_eq
    simp only at *
    omega
  rw [(dats m 0 c).before_out_kept 17 rfl t ht hf (fun _ => rfl) (fun _ _ => rfl) d, after0_17]
  exact congrArg (memBlk m c) (by simp only; omega)

/-- After the first point the momentum window holds what the point before left. -/
theorem before0_18 (c : Dev nD) (t : Fin cfg0.N) (ht : t.val ≠ 0) (d) : (dats m 0 c).before 18 t d = momBlk m c (16 * t.val) := by
  have hl : t.val - 1 < cfg0.N := Nat.lt_of_le_of_lt (Nat.sub_le _ _) t.isLt
  have hf : (cfg0.win 18).flush ⟨t.val - 1, hl⟩ = false := by
    rw [Bool.eq_false_iff]
    intro h
    have := (flush0_18 ⟨t.val - 1, hl⟩).mp h
    have := t.isLt
    have := N_eq
    simp only at *
    omega
  rw [(dats m 0 c).before_out_kept 18 rfl t ht hf (fun _ => rfl) (fun _ _ => rfl) d, after0_18]
  exact congrArg (momBlk m c) (by simp only; omega)

/-- The invariant after the first point. -/
theorem inv_pos (c : Dev nD) (n : ℕ) (h : n ≠ 0) : inv m c n = iprop(iprop(owns (c : Thread nD τ) (Memref.whole cc0_scratch0) fullShare (keyBlk m c (16 * n)) ∗ owns (c : Thread nD τ) (Memref.whole cc0_scratch1) fullShare (valBlk m c (16 * n))) ∗ (∃ r, prngReg c r)) := by
  unfold inv; rw [if_neg h]

/-- The invariant opened: the rings hold something, after the first point the steps made so far. -/
theorem inv_open (c : Dev nD) (n : ℕ) : inv m c n ⊢ iprop(∃ X20 X21, ⌜(n ≠ 0 → X20 = keyBlk m c (16 * n)) ∧ (n ≠ 0 → X21 = valBlk m c (16 * n))⌝
    ∗ owns (c : Thread nD τ) (Memref.whole cc0_scratch0) fullShare X20 ∗ owns (c : Thread nD τ) (Memref.whole cc0_scratch1) fullShare X21 ∗ (∃ r, prngReg c r)) := by
  by_cases h : n = 0
  · unfold inv; rw [if_pos h, PhiA0_eq]
    iintro ⟨⟨⟨%X20, H20⟩, ⟨%X21, H21⟩⟩, Hg⟩
    iexists X20; iexists X21
    isplitr; · ipureintro; exact ⟨fun h' => absurd h h', fun h' => absurd h h'⟩
    isplitl [H20]; · iexact H20
    isplitl [H21]; · iexact H21
    iexact Hg
  · rw [inv_pos m c n h]
    iintro ⟨⟨H20, H21⟩, Hg⟩
    iexists _; iexists _
    isplitr; · ipureintro; exact ⟨fun _ => rfl, fun _ => rfl⟩
    isplitl [H20]; · iexact H20
    isplitl [H21]; · iexact H21
    iexact Hg

/-- The invariant gives the region's own back. -/
theorem inv_out (c : Dev nD) (n : ℕ) : inv m c n ⊢ Pipeline.ΦA spec0 c := by
  by_cases h : n = 0
  · unfold inv; rw [if_pos h]
  · rw [inv_pos m c n h, PhiA0_eq]
    iintro ⟨⟨H20, H21⟩, Hg⟩
    isplitl [H20 H21]
    · isplitl [H20]
      · iexists _; iexact H20
      iexists _; iexact H21
    iexact Hg

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t))

/-- The body at any point: the run at the blocks the inputs hold and at the state the point before left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14, before0_15, after0_15, after0_16, after0_17, after0_18]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (t.val + 1) (Nat.succ_ne_zero _), show 16 * (t.val + 1) = 16 * t.val + 16 from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  ihave HI' := (inv_open m c t.val) $$ HI
  icases HI' with ⟨%X20, %X21, %hX, H20, H21, Hg⟩
  iapply (run_named m c t _ _ _ _ _ _ _ _ _ _ _ _ _ _ _ _ _ _ _ _ _ _ _ _ _ _ _ _ _ _ _ _ _ _ _ _ _ _ _ _ _ _ _ ((dats m 0 c).before 17 t d17) ((dats m 0 c).before 18 t d18) X20 X21
    (fun ht => before0_17 m c t ht d17) (fun ht => before0_18 m c t ht d18) hX.1 hX.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H20]; · iexact H20
  isplitl [H21]; · iexact H21
  iintro ⟨H0, H1, H2, H3, H4, H5, H6, H7, H8, H9, H10, H11, H12, H13, H14, H15, H16, H17, H18, H20, H21⟩
  isplitl [H20 H21 Hg]
  · isplitl [H20 H21]
    · isplitl [H20]
      · iexact H20
      iexact H21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = inv m c 0 from rfl]
  unfold inv
  rw [if_pos rfl]

/-- After the last point the invariant gives the region's own back. -/
theorem hout (c : Dev nD) : (dats m 0 c).Φ (Fin.last cfg0.N) ⊢ Pipeline.ΦA spec0 c := inv_out m c (Fin.last cfg0.N).val

set_option backward.isDefEq.respectTransparency.types false in
set_option maxHeartbeats 800000 in
/-- The launch: every array at what the points left, every other buffer at what the lines after the region compute. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Result
-- ==== Proof.Algebra.lean ====
/-
The recurrence in the kernel's form and in the reference's form, equal over the extended reals.
-/
module

public import proofs.«01_k».proof.Proof.Gates

@[expose] public section

noncomputable section

namespace Cert.Atlas

open Idealize.ShloMosaic
open scoped BigOperators

/-- A finite factor that is not negative goes into a sum. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A sum of finite numbers is their finite sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sigmoid is a finite number that is not negative. -/
theorem logistic_real (x : EReal) : ∃ r : ℝ, 0 ≤ r ∧ Ideal.logistic x = r := by
  induction x using EReal.rec with
  | bot => exact ⟨0, le_refl _, Ideal.logistic_bot⟩
  | coe r => exact ⟨_, by positivity, Ideal.logistic_coe r⟩
  | top => exact ⟨1, zero_le_one, Ideal.logistic_top⟩

/-- The root of a finite number that is not negative, squared. -/
theorem root_sq {r : ℝ} (h : 0 ≤ r) : Ideal.sqrt (r : EReal) * Ideal.sqrt (r : EReal) = r := by
  rw [Ideal.sqrt_coe, if_neg (not_lt.mpr h), ← EReal.coe_mul, Real.mul_self_sqrt h]

/-! ## The window -/

/-- After `n` pushes, slot `(n + w) % 8` of the ring holds the row of time `n + w - 8`, or nothing if there is no such time. -/
theorem ring_window (x : ℕ → Fin 256 → EReal) : ∀ (n : ℕ) (r : Fin 8) (w : ℕ) (c : Fin 256), w < 8 → r.val = (n + w) % 8 →
    ring 0 x n r c = if 8 ≤ n + w then x (n + w - 8) c else 0
  | 0, r, w, c, hw, _ => by rw [if_neg (by omega)]; rfl
  | n + 1, r, w, c, hw, hr => by
    show (if r.val = n % 8 then x n c else ring 0 x n r c) = _
    by_cases h : w = 7
    · subst h
      rw [if_pos (by omega), if_pos (by omega), show n + 1 + 7 - 8 = n from by omega]
    · rw [if_neg (by omega), ring_window x n r (w + 1) c (by omega) (by omega), show n + (w + 1) = n + 1 + w from by omega]

/-- The slot of a window position. -/
def slot (n : ℕ) (w : Fin 8) : Fin 8 := ⟨(n + w.val) % 8, Nat.mod_lt _ (by omega)⟩

/-- Every slot is one window position's. -/
theorem slot_bijective (n : ℕ) : Function.Bijective (slot n) :=
  Finite.injective_iff_bijective.mp fun a b h => by
    have h' : (n + a.val) % 8 = (n + b.val) % 8 := congrArg Fin.val h
    exact Fin.ext (by have := a.isLt; have := b.isLt; omega)

/-- One slot's share of the gradient. -/
theorem share (s c : EReal) (h0 : 0 ≤ s) (ht : s ≠ ⊤) (k m : Fin 256 → EReal) (v : EReal) (e : Fin 256) :
    s * k e * ((∑ f, s * k f * m f - s * v) * c) = s * s * (∑ f, k f * m f - v) * k e * c := by
  have h1 : ∑ f, s * k f * m f - s * v = s * (∑ f, k f * m f - v) := by
    rw [sub_eq_add_neg, sub_eq_add_neg, EReal.left_distrib_of_nonneg_of_ne_top h0 ht, mul_sum_of_nonneg _ _ h0 ht, mul_neg]
    simp only [mul_assoc]
  rw [h1]
  ac_rfl

/-- A window row: the row of time `n + w - 8`, or nothing. -/
def win {β : Type} [Zero β] (x : ℕ → β) (n w : ℕ) : β := if 8 ≤ n + w then x (n + w - 8) else 0

/-- The window a step later. -/
theorem win_shift {β : Type} [Zero β] (x : ℕ → β) (n w : ℕ) : win x (n + 1) w = win x n (w + 1) := by
  unfold win; rw [show n + (w + 1) = n + 1 + w from by omega]

/-- The window's newest row. -/
theorem win_new {β : Type} [Zero β] (x : ℕ → β) (n : ℕ) : win x (n + 1) 7 = x n := by
  unfold win; rw [if_pos (by omega), show n + 1 + 7 - 8 = n from by omega]

variable (A : Arrays)

/-- The gradient in the kernel's form is the gradient in the reference's. -/
theorem grad_eq (b : Fin 4) (n : ℕ) (M : Mat) (e d : Fin 256) :
    ∑ r, ring 0 (A.rows b).gk (n + 1) r e * err (ring 0 (A.rows b).gk (n + 1)) (ring 0 (A.rows b).gv (n + 1)) (rc n) M r d
      = Ideal.div (∑ w : Fin 8, win (A.gam b) (n + 1) w.val
          * ((∑ f, win (A.feat b) (n + 1) w.val f * M f d) - win (A.v b) (n + 1) w.val d) * win (A.feat b) (n + 1) w.val e)
        (((min (n + 1) 8 : ℕ) : ℝ) : EReal) := by
  have hc : ((min (n + 1) 8 : ℕ) : ℝ) ≠ 0 := by
    have : min (n + 1) 8 ≠ 0 := by omega
    exact_mod_cast this
  have hc0 : (0 : EReal) ≤ rc n := by unfold rc; exact_mod_cast (by positivity)
  have hct : rc n ≠ ⊤ := by unfold rc; exact EReal.coe_ne_top _
  rw [Ideal.div_coe hc, show ((1 / ((min (n + 1) 8 : ℕ) : ℝ) : ℝ) : EReal) = rc n from rfl, mul_comm _ (rc n),
    mul_sum_of_nonneg _ _ hc0 hct, ← (slot_bijective (n + 1)).sum_comp]
  refine Finset.sum_congr rfl fun w _ => ?_
  unfold err
  simp only [ring_window _ (n + 1) (slot (n + 1) w) w.val _ w.isLt rfl]
  unfold win
  by_cases h : 8 ≤ n + 1 + w.val
  · simp only [if_pos h]
    obtain ⟨r, hr, hg⟩ := logistic_real (∑ e, A.x b (n + 1 + w.val - 8) e * A.gW e + A.gb)
    have hg' : A.gam b (n + 1 + w.val - 8) = r := hg
    have hs : Ideal.sqrt (r : EReal) = ((Real.sqrt r : ℝ) : EReal) := by rw [Ideal.sqrt_coe, if_neg (not_lt.mpr hr)]
    refine (share (Ideal.sqrt (A.gam b (n + 1 + w.val - 8))) (rc n) ?_ ?_ (A.feat b (n + 1 + w.val - 8)) (fun f => M f d) _ e).trans ?_
    · rw [hg', hs]; exact_mod_cast Real.sqrt_nonneg r
    · rw [hg', hs]; exact EReal.coe_ne_top _
    · rw [hg', root_sq hr, mul_comm _ (rc n)]
  · simp only [if_neg h, zero_mul, mul_zero]

/-! ## The orthogonalisation -/

/-- The small number is a positive finite number. -/
theorem eps_real : ∃ r : ℝ, 0 < r ∧ eps = r :=
  ⟨14073749 / 2 ^ 47, by positivity, by unfold eps; simp [Ideal.ofBits, Ideal.ieee, -EReal.coe_mul]; norm_num⟩

/-- Either the norm is infinite, or every entry and the norm are finite and the norm is positive. -/
theorem nrm_cases (S : Mat) : nrm S = ⊤ ∨ ∃ (s : Fin 256 → Fin 256 → ℝ) (N : ℝ), (∀ e d, S e d = s e d) ∧ 0 < N ∧ nrm S = N := by
  obtain ⟨ε, hε, he⟩ := eps_real
  by_cases h : ∀ e d, S e d ≠ ⊤ ∧ S e d ≠ ⊥
  · right
    have hS : ∀ e d, S e d = ((S e d).toReal : EReal) := fun e d => (EReal.coe_toReal (h e d).1 (h e d).2).symm
    refine ⟨fun e d => (S e d).toReal, Real.sqrt (∑ i, ∑ j, (S i j).toReal * (S i j).toReal) + ε, hS, by positivity, ?_⟩
    have hq : sumSq S = ((∑ i, ∑ j, (S i j).toReal * (S i j).toReal : ℝ) : EReal) := by
      unfold sumSq
      rw [← sum_coe]
      refine Finset.sum_congr rfl fun i _ => ?_
      rw [← sum_coe]
      refine Finset.sum_congr rfl fun j _ => ?_
      rw [EReal.coe_mul, ← hS]
    have hn : ¬ (∑ i, ∑ j, (S i j).toReal * (S i j).toReal : ℝ) < 0 :=
      not_lt.mpr (Finset.sum_nonneg fun i _ => Finset.sum_nonneg fun j _ => mul_self_nonneg _)
    unfold nrm
    rw [hq, Ideal.sqrt_coe, if_neg hn, he, EReal.coe_add]
  · left
    have h0 : ∀ x : EReal, 0 ≤ x * x := fun x => by
      induction x using EReal.rec with
      | bot => simp
      | coe r => rw [← EReal.coe_mul]; exact_mod_cast mul_self_nonneg r
      | top => simp
    push Not at h
    obtain ⟨e, d, h⟩ := h
    have hsq : S e d * S e d = ⊤ := by
      by_cases ht : S e d = ⊤
      · rw [ht]; rfl
      · rw [h ht]; rfl
    have hq : sumSq S = ⊤ := by
      refine top_le_iff.mp ?_
      rw [← hsq]
      exact (Finset.single_le_sum (f := fun j => S e j * S e j) (fun j _ => h0 _) (Finset.mem_univ d)).trans
        (Finset.single_le_sum (f := fun i => ∑ j, S i j * S i j) (fun i _ => Finset.sum_nonneg fun j _ => h0 _) (Finset.mem_univ e))
    unfold nrm
    rw [hq, Ideal.sqrt_top, he]
    exact EReal.top_add_coe ε

/-- Three halves is finite. -/
theorem threeHalves_real : threeHalves = ((3 / 2 : ℝ) : EReal) := by
  unfold threeHalves; simp [Ideal.ofBits, Ideal.ieee, -EReal.coe_mul]; norm_num
/-- One half is finite. -/
theorem oneHalf_real : oneHalf = ((1 / 2 : ℝ) : EReal) := by
  unfold oneHalf; simp [Ideal.ofBits, Ideal.ieee, -EReal.coe_mul]; norm_num
/-- One tenth, as the programs write it, is finite. -/
theorem tenth_real : ∃ r : ℝ, Arrays.tenth = r :=
  ⟨13421773 / 2 ^ 27, by unfold Arrays.tenth; simp [Ideal.ofBits, Ideal.ieee, -EReal.coe_mul]; norm_num⟩

/-- A difference taken off is its first part taken off and its second put back. -/
theorem sub_sub_real (x : EReal) (p q : ℝ) : x - ((p - q : ℝ) : EReal) = x - (p : EReal) + (q : EReal) := by
  induction x using EReal.rec with
  | bot => simp
  | coe r => rw [← EReal.coe_sub, ← EReal.coe_sub, ← EReal.coe_add]; congr 1; ring
  | top => rw [EReal.top_sub_coe, EReal.top_sub_coe, EReal.top_add_coe]

/-- The next memory in the kernel's form is the next memory in the reference's. -/
theorem nextM_eq (a eta : Fin 256 → EReal) (M S : Mat) (h : ∀ d, ∃ r : ℝ, eta d = r) (e d : Fin 256) :
    nextM a eta M S e d = a d * M e d - eta d * (threeHalves * Ideal.div (S e d) (nrm S)
      - oneHalf * ∑ i, (∑ j, Ideal.div (S j i) (nrm S) * Ideal.div (S j d) (nrm S)) * Ideal.div (S e i) (nrm S)) := by
  unfold nextM
  obtain ⟨t, ht⟩ := h d
  rcases nrm_cases S with hN | ⟨s, N, hs, hN0, hN⟩
  · have hz : ∀ x : EReal, Ideal.div x ⊤ = 0 := fun x => by
      unfold Ideal.div; rw [if_neg (by simp), EReal.inv_top, mul_zero]
    simp only [hN, hz, EReal.top_mul_top, zero_mul, mul_zero, Finset.sum_const_zero, sub_zero, add_zero]
  · have hN' : N ≠ 0 := hN0.ne'
    have hd : ∀ x y : ℝ, y ≠ 0 → Ideal.div (x : EReal) (y : EReal) = ((x * (1 / y) : ℝ) : EReal) := fun x y hy => by
      rw [Ideal.div_coe hy, EReal.coe_mul]
    have hN3 : nrm S * nrm S * nrm S = ((N * N * N : ℝ) : EReal) := by rw [hN, EReal.coe_mul, EReal.coe_mul]
    rw [hN3, hN, threeHalves_real, oneHalf_real, hd _ _ hN', hd _ _ (by positivity)]
    unfold cube
    simp only [hs, ht, hd _ _ hN', ← EReal.coe_mul, sum_coe, ← EReal.coe_sub]
    rw [← sub_sub_real]
    congr 2
    have key : ∑ i, (∑ j, s j i * (1 / N) * (s j d * (1 / N))) * (s e i * (1 / N))
        = 1 / (N * N * N) * ∑ f, (∑ g, s e g * s f g) * s f d := by
      simp only [Finset.sum_mul, Finset.mul_sum]
      rw [Finset.sum_comm]
      refine Finset.sum_congr rfl fun f _ => Finset.sum_congr rfl fun g _ => ?_
      field_simp
    rw [key]
    ring

end Cert.Atlas
-- ==== Proof.Inputs.lean ====
/-
The problem's arrays, and its three results, from the sixteen argument buffers.
-/
module

public import proofs.«01_k».proof.Proof.Algebra

@[expose] public section

noncomputable section

namespace Cert.Atlas

open Idealize.ShloMosaic
open Idealize.ShloMosaic.ValueIdx

/-- The rows of a batch by time, nothing past the last. -/
def rowsOf (X : (⟨3, ![4, 256, 256]⟩ : Shape).Idx → EReal) (b : Fin 4) (n : ℕ) (d : Fin 256) : EReal :=
  if h : n < 256 then X (ix3 b ⟨n, h⟩ d) else 0

/-- The arrays of the problem from the argument buffers. -/
def Arrays.of (a0 a1 a2 a3 a4 : (⟨3, ![4, 256, 256]⟩ : Shape).Idx → EReal) (a5 : (⟨2, ![2, 256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 a12 : (⟨1, ![256]⟩ : Shape).Idx → EReal)
    (a13 : (⟨1, ![1]⟩ : Shape).Idx → EReal) (a14 : (⟨2, ![256, 256]⟩ : Shape).Idx → EReal)
    (a15 : (⟨1, ![256]⟩ : Shape).Idx → EReal) : Arrays where
  x := rowsOf a0
  k := rowsOf a1
  v := rowsOf a2
  M0 b e d := a3 (ix3 b d e)
  S0 b e d := a4 (ix3 b d e)
  p r d := a5 (ix2 r d)
  aW r d := a6 (ix2 r d)
  ab d := a7 (ix1 d)
  eW r d := a8 (ix2 r d)
  eb d := a9 (ix1 d)
  tW r d := a10 (ix2 r d)
  tb d := a11 (ix1 d)
  gW r := a12 (ix1 r)
  gb := a13 (ix1 0)
  oW r d := a14 (ix2 r d)
  ob d := a15 (ix1 d)

/-- Arrays that agree part by part are equal. -/
theorem Arrays.eq_of {A B : Arrays} (h0 : A.x = B.x) (h1 : A.k = B.k) (h2 : A.v = B.v) (h3 : A.M0 = B.M0) (h4 : A.S0 = B.S0)
    (h5 : A.p = B.p) (h6 : A.aW = B.aW) (h7 : A.ab = B.ab) (h8 : A.eW = B.eW) (h9 : A.eb = B.eb) (h10 : A.tW = B.tW)
    (h11 : A.tb = B.tb) (h12 : A.gW = B.gW) (h13 : A.gb = B.gb) (h14 : A.oW = B.oW) (h15 : A.ob = B.ob) : A = B := by
  cases A; cases B
  dsimp only at *
  subst h0 h1 h2 h3 h4 h5 h6 h7 h8 h9 h10 h11 h12 h13 h14 h15
  rfl

/-- The projected output of every token. -/
def Arrays.outs (A : Arrays) : (⟨3, ![4, 256, 256]⟩ : Shape).Idx → EReal := fun i => A.out (i 0) (i 1).val (i 2)
/-- The memory after the last token. -/
def Arrays.mem (A : Arrays) : (⟨3, ![4, 256, 256]⟩ : Shape).Idx → EReal := fun i => (A.st (i 0) 256).1 (i 2) (i 1)
/-- The momentum after the last token. -/
def Arrays.mom (A : Arrays) : (⟨3, ![4, 256, 256]⟩ : Shape).Idx → EReal := fun i => (A.st (i 0) 256).2 (i 2) (i 1)

end Cert.Atlas
-- ==== Proof.Final.lean ====
/-
What the idealized kernel's three result buffers hold at the end, from its argument buffers.
-/
module

public import proofs.«01_k».proof.Proof.Result
public import proofs.«01_k».proof.Proof.Inputs
public import Idealize.ShloMosaic.Lib.ValueLayoutCasts
public import Idealize.ShloMosaic.Lib.Pipeline.ValueKit

@[expose] public section

set_option maxRecDepth 16384

noncomputable section

namespace Cert.KernelIdeal.Result

open Cert.KernelIdeal Cert.KernelIdeal.Gen Cert.KernelIdeal.Body
open Idealize.ShloMosaic hiding ix1 ix2 ix3
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-! ## The buffers the lines before the launch fill -/

/-- The memory the launch starts from, transposed. -/
theorem V_v0 (c : Dev nD) : V m c main_call0_v0 = transpose S4x256x256 [0, 2, 1] (m ((c.tc : Thread nD τ).loc main_arg3)) transposes_S4x256x256_S4x256x256_0_2_1 := by
  rfl
/-- The momentum the launch starts from, transposed. -/
theorem V_v1 (c : Dev nD) : V m c main_call0_v1 = transpose S4x256x256 [0, 2, 1] (m ((c.tc : Thread nD τ).loc main_arg4)) transposes_S4x256x256_S4x256x256_0_2_1 := by
  rfl
/-- Argument 6, narrowed. -/
theorem V_v2 (c : Dev nD) : V m c main_call0_v2 = (m ((c.tc : Thread nD τ).loc main_arg6)) := by
  rfl
/-- Argument 8, narrowed. -/
theorem V_v4 (c : Dev nD) : V m c main_call0_v4 = (m ((c.tc : Thread nD τ).loc main_arg8)) := by
  rfl
/-- Argument 10, narrowed. -/
theorem V_v6 (c : Dev nD) : V m c main_call0_v6 = (m ((c.tc : Thread nD τ).loc main_arg10)) := by
  rfl
/-- Argument 14, narrowed. -/
theorem V_v11 (c : Dev nD) : V m c main_call0_v11 = (m ((c.tc : Thread nD τ).loc main_arg14)) := by
  rfl
/-- Argument 7 as one row. -/
theorem V_v3 (c : Dev nD) : V m c main_call0_v3 = shapeCast S1x256 (m ((c.tc : Thread nD τ).loc main_arg7)) shapeCasts_S256_S1x256 := by
  rfl
/-- Argument 9 as one row. -/
theorem V_v5 (c : Dev nD) : V m c main_call0_v5 = shapeCast S1x256 (m ((c.tc : Thread nD τ).loc main_arg9)) shapeCasts_S256_S1x256 := by
  rfl
/-- Argument 11 as one row. -/
theorem V_v7 (c : Dev nD) : V m c main_call0_v7 = shapeCast S1x256 (m ((c.tc : Thread nD τ).loc main_arg11)) shapeCasts_S256_S1x256 := by
  rfl
/-- Argument 15 as one row. -/
theorem V_v12 (c : Dev nD) : V m c main_call0_v12 = shapeCast S1x256 (m ((c.tc : Thread nD τ).loc main_arg15)) shapeCasts_S256_S1x256 := by
  rfl
/-- Argument 12 as one column, narrowed. -/
theorem V_v9 (c : Dev nD) : V m c main_call0_v9 = shapeCast S256x1 (m ((c.tc : Thread nD τ).loc main_arg12)) shapeCasts_S256_S256x1 := by
  rfl
/-- Argument 13 as one row. -/
theorem V_v10 (c : Dev nD) : V m c main_call0_v10 = shapeCast S1x1 (m ((c.tc : Thread nD τ).loc main_arg13)) shapeCasts_S1_S1x1 := by
  rfl

/-- The problem's arrays, from the argument buffers. -/
def inputs (c : Dev nD) : Cert.Atlas.Arrays := Cert.Atlas.Arrays.of
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))

/-- The region's arrays are the problem's. -/
theorem arrays_eq (c : Dev nD) : arrays m c = inputs m c := by
  refine Cert.Atlas.Arrays.eq_of ?_ ?_ ?_ ?_ ?_ ?_ ?_ ?_ ?_ ?_ ?_ ?_ ?_ ?_ ?_ ?_
  · exact congrArg pad (V_main_arg0 m c)
  · exact congrArg pad (V_main_arg1 m c)
  · exact congrArg pad (V_main_arg2 m c)
  · funext b e d
    show (V m c main_call0_v0 : Vec Ideal S4x256x256 .f32) (ix3 b e d) = _
    rw [V_v0]; exact transpose_ix3_021_apply _ _ _ _ _
  · funext b e d
    show (V m c main_call0_v1 : Vec Ideal S4x256x256 .f32) (ix3 b e d) = _
    rw [V_v1]; exact transpose_ix3_021_apply _ _ _ _ _
  · funext r d; exact congrFun (V_main_arg5 m c) (ix2 r d)
  · funext r d; exact congrFun (V_v2 m c) (ix2 r d)
  · funext d
    show (V m c main_call0_v3 : Vec Ideal S1x256 .f32) (ix2 0 d) = _
    rw [V_v3]; exact shapeCast_a_1a_apply _ _ _ _
  · funext r d; exact congrFun (V_v4 m c) (ix2 r d)
  · funext d
    show (V m c main_call0_v5 : Vec Ideal S1x256 .f32) (ix2 0 d) = _
    rw [V_v5]; exact shapeCast_a_1a_apply _ _ _ _
  · funext r d; exact congrFun (V_v6 m c) (ix2 r d)
  · funext d
    show (V m c main_call0_v7 : Vec Ideal S1x256 .f32) (ix2 0 d) = _
    rw [V_v7]; exact shapeCast_a_1a_apply _ _ _ _
  · funext r
    show (V m c main_call0_v9 : Vec Ideal S256x1 .bf16) (ix2 r 0) = _
    rw [V_v9]; exact shapeCast_a_a1_apply _ _ _ _
  · show (V m c main_call0_v10 : Vec Ideal S1x1 .f32) (ix2 0 0) = _
    rw [V_v10]; exact shapeCast_a_1a_apply _ _ _ _
  · funext r d; exact congrFun (V_v11 m c) (ix2 r d)
  · funext d
    show (V m c main_call0_v12 : Vec Ideal S1x256 .f32) (ix2 0 d) = _
    rw [V_v12]; exact shapeCast_a_1a_apply _ _ _ _

/-! ## The arrays at the end -/

/-- The projected output depends on its coordinates' values. -/
theorem out_congr (A : Cert.Atlas.Arrays) {a a' : Fin 4} {n n' : ℕ} {d d' : Fin 256} (h0 : a.val = a'.val) (h1 : n = n')
    (h2 : d.val = d'.val) : A.out a n d = A.out a' n' d' := by
  rw [Fin.ext h0, h1, Fin.ext h2]

/-- The output array at the end. -/
theorem arr_16 (c : Dev nD) : (dats m 0 c).arrAt 16 cfg0.N = (inputs m c).outs := by
  refine (dats m 0 c).arrAt_eq_of_covers 16 _ (by decide +kernel) fun t hf y => ?_
  rw [after0_16]
  unfold outBlk
  rw [arrays_eq]
  refine out_congr (inputs m c) ?_ ?_ ?_
  · blk_simp [index_16]
    try omega
  · blk_simp [index_16]
    show 16 * t.val + (y 1).val = _
    omega
  · blk_simp [index_16]
    try omega

/-- The transposed memory at the end. -/
theorem arr_17 (c : Dev nD) : (dats m 0 c).arrAt 17 cfg0.N = memBlk m c 256 := by
  refine (dats m 0 c).arrAt_eq_of_after_last 17 ⟨15, by rw [N_eq]; omega⟩ (by decide +kernel) _ fun j => ?_
  rw [after0_17]
  rfl

/-- The transposed momentum at the end. -/
theorem arr_18 (c : Dev nD) : (dats m 0 c).arrAt 18 cfg0.N = momBlk m c 256 := by
  refine (dats m 0 c).arrAt_eq_of_after_last 18 ⟨15, by rw [N_eq]; omega⟩ (by decide +kernel) _ fun j => ?_
  rw [after0_18]
  rfl

/-- What the lines after the launch leave in the memory's buffer. -/
theorem tail_mem (c : Dev nD) :
    Pipeline.afterTail₀ cfgs (dats m) 0 (V0 m) [hostOps1] c main_v0_1 = (inputs m c).mem := by
  have h : Pipeline.afterTail₀ cfgs (dats m) 0 (V0 m) [hostOps1] c main_v0_1
      = transpose S4x256x256 [0, 2, 1] (Pipeline.withArrays (cfgs 0).spec c (V0 m c) (fun w => (dats m 0 c).arrAt w cfg0.N)
          (Proc.devRef .tc (Pipeline.arrRef spec0 17))) transposes_S4x256x256_S4x256x256_0_2_1 := rfl
  rw [h, Pipeline.withArrays_arr spec0 launch0.win.arr_inj, arr_17]
  refine ext3 fun b d e => (transpose_ix3_021_apply _ _ _ _ _).trans ?_
  show ((arrays m c).st b 256).1 e d = _
  rw [arrays_eq]
  rfl

/-- What the lines after the launch leave in the momentum's buffer. -/
theorem tail_mom (c : Dev nD) :
    Pipeline.afterTail₀ cfgs (dats m) 0 (V0 m) [hostOps1] c main_v0_2 = (inputs m c).mom := by
  have h : Pipeline.afterTail₀ cfgs (dats m) 0 (V0 m) [hostOps1] c main_v0_2
      = transpose S4x256x256 [0, 2, 1] (Pipeline.withArrays (cfgs 0).spec c (V0 m c) (fun w => (dats m 0 c).arrAt w cfg0.N)
          (Proc.devRef .tc (Pipeline.arrRef spec0 18))) transposes_S4x256x256_S4x256x256_0_2_1 := rfl
  rw [h, Pipeline.withArrays_arr spec0 launch0.win.arr_inj, arr_18]
  refine ext3 fun b d e => (transpose_ix3_021_apply _ _ _ _ _).trans ?_
  show ((arrays m c).st b 256).2 e d = _
  rw [arrays_eq]
  rfl

/-- THE KERNEL'S RUN: the three results, and the arguments unchanged. -/
theorem kernel_run : θ_run defs (onTc (τ := τ) (main (F := Ideal))) ⟨m, fun _ => 0, ρ⟩ (fun r => ∀ c : Dev nD,
      r.2.mem ((c.tc : Thread nD τ).loc main_v0_0) = (inputs m c).outs
      ∧ r.2.mem ((c.tc : Thread nD τ).loc main_v0_1) = (inputs m c).mem
      ∧ r.2.mem ((c.tc : Thread nD τ).loc main_v0_2) = (inputs m c).mom
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ hr c => by
    have h := hr.1
    exact ⟨((h c).1 16).trans (arr_16 m c),
      ((h c).2 main_v0_1 (Pipeline.mem_restRefs_of main_v0_1 (by decide) (by decide))).trans (tail_mem m c),
      ((h c).2 main_v0_2 (Pipeline.mem_restRefs_of main_v0_2 (by decide) (by decide))).trans (tail_mom m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩) (run_main m ρ)

end Cert.KernelIdeal.Result
-- ==== Proof.Loop.lean ====
/-
The reference's loop: what its carried buffers hold after any number of trips, as the recurrence of the problem.
-/
module

public import proofs.«01_k».proof.Proof.Inputs
public import proofs.«01_k».proof.Proof.Gen.ReferenceIdeal.Run
public import Idealize.ShloMosaic.Lib.Pointwise
public import Idealize.ShloMosaic.Lib.DynamicIndex

@[expose] public section

set_option maxRecDepth 16384

noncomputable section

namespace Cert.ReferenceIdeal.Loop

open Cert.ReferenceIdeal Cert.ReferenceIdeal.Gen Cert.ReferenceIdeal.Value
open Cert.Atlas (Arrays win)
open Idealize.ShloMosaic Idealize.ShloMosaic.TcCoe
open scoped BigOperators

/-! ## One row of an array, at the trip's index -/

/-- The words of a trip's index read as numbers. -/
theorem trip_toInt {n : ℕ} (hn : n < 256) : (BitVec.ofNat 32 n).toInt = n := by
  rw [BitVec.toInt_eq_toNat_of_lt (by rw [BitVec.toNat_ofNat]; omega), BitVec.toNat_ofNat, Nat.mod_eq_of_lt (by omega)]

/-- The trip's row of an array of three axes. -/
theorem slice3 (n : ℕ) (hn : n < 256) {i : (⟨S_, .i32⟩ : BufTy).Contents (Elt Ideal)} (hi : i = fun _ => BitVec.ofNat 32 n)
    (x : FVec Ideal S256x4x256 .f32) (h1 h2) :
    shapeCast S4x256 (Host.dynamicSlice S1x4x256 x (fun k => ((![i, constantI S_ 32 0#32,
      constantI S_ 32 0#32] : Fin 3 → (⟨S_, .i32⟩ : BufTy).Contents (Elt Ideal)) k (Shape.Idx.first h_S_)).toInt) h1) h2
      = fun j => x (ix3 ⟨n, hn⟩ (j 0) (j 1)) := by
  subst hi
  rw [Host.dynamicSlice_eq_extractStridedSlice _ _ _ ![n, 0, 0] h1
    ⟨rfl, fun a => by fin_cases a <;> simp <;> omega⟩ (fun a => by fin_cases a <;> first | exact trip_toInt hn | rfl)]
  funext j
  pointwise

/-- The trip's row of an array of two axes. -/
theorem slice2 (n : ℕ) (hn : n < 256) {i : (⟨S_, .i32⟩ : BufTy).Contents (Elt Ideal)} (hi : i = fun _ => BitVec.ofNat 32 n)
    (x : FVec Ideal S256x4 .f32) (h1 h2) :
    shapeCast S4 (Host.dynamicSlice S1x4 x (fun k => ((![i, constantI S_ 32 0#32]
      : Fin 2 → (⟨S_, .i32⟩ : BufTy).Contents (Elt Ideal)) k (Shape.Idx.first h_S_)).toInt) h1) h2
      = fun j => x (ix2 ⟨n, hn⟩ (j 0)) := by
  subst hi
  rw [Host.dynamicSlice_eq_extractStridedSlice _ _ _ ![n, 0] h1
    ⟨rfl, fun a => by fin_cases a <;> simp <;> omega⟩ (fun a => by fin_cases a <;> first | exact trip_toInt hn | rfl)]
  funext j
  pointwise

/-- The trip's entry of an array of one axis. -/
theorem slice1 (n : ℕ) (hn : n < 256) {i : (⟨S_, .i32⟩ : BufTy).Contents (Elt Ideal)} (hi : i = fun _ => BitVec.ofNat 32 n)
    (x : FVec Ideal S256 .f32) (h1 h2) :
    shapeCast S_ (Host.dynamicSlice S1 x (fun k => ((![i] : Fin 1 → (⟨S_, .i32⟩ : BufTy).Contents (Elt Ideal)) k
      (Shape.Idx.first h_S_)).toInt) h1) h2
      = fun _ => x (ix1 ⟨n, hn⟩) := by
  subst hi
  rw [Host.dynamicSlice_eq_extractStridedSlice _ _ _ ![n] h1
    ⟨rfl, fun a => by fin_cases a <;> simp <;> omega⟩ (fun a => by fin_cases a <;> exact trip_toInt hn)]
  funext j
  pointwise

/-- An array with the trip's row replaced. -/
theorem update3 (n : ℕ) (hn : n < 256) {i : (⟨S_, .i32⟩ : BufTy).Contents (Elt Ideal)} (hi : i = fun _ => BitVec.ofNat 32 n)
    (x : FVec Ideal S256x4x256 .f32) (u : FVec Ideal S1x4x256 .f32) (h1) (t : Fin 256) (b : Fin 4) (d : Fin 256) :
    Host.dynamicUpdateSlice x u (fun k => ((![i, constantI S_ 32 0#32,
      constantI S_ 32 0#32] : Fin 3 → (⟨S_, .i32⟩ : BufTy).Contents (Elt Ideal)) k (Shape.Idx.first h_S_)).toInt) h1 (ix3 t b d)
      = if t.val = n then u (ix3 0 b d) else x (ix3 t b d) := by
  subst hi
  have hs : ∀ a : Fin 3, Host.clampedStart S256x4x256 S1x4x256 h1.1 (fun k => ((![(fun _ => BitVec.ofNat 32 n), constantI S_ 32 0#32,
      constantI S_ 32 0#32] : Fin 3 → (⟨S_, .i32⟩ : BufTy).Contents (Elt Ideal)) k (Shape.Idx.first h_S_)).toInt) a
        = (![n, 0, 0] : Fin 3 → ℕ) a := fun a => by
    match a with
    | ⟨0, _⟩ => exact Host.clampedStart_of_le _ _ _ _ (trip_toInt hn) (by show n + 1 ≤ 256; omega)
    | ⟨1, _⟩ => exact Host.clampedStart_of_le _ _ _ _ rfl (by show 0 + 4 ≤ 4; omega)
    | ⟨2, _⟩ => exact Host.clampedStart_of_le _ _ _ _ rfl (by show 0 + 256 ≤ 256; omega)
  rw [Host.dynamicUpdateSlice_apply]
  by_cases h : t.val = n
  · rw [if_pos h, dif_pos]
    · refine congrArg u (funext fun a => Fin.ext ?_)
      refine (congrArg ((ix3 t b d _).val - ·) (hs _)).trans ?_
      match a with
      | ⟨0, _⟩ => show t.val - n = 0; omega
      | ⟨1, _⟩ => rfl
      | ⟨2, _⟩ => rfl
    · intro a
      refine (hs a).symm ▸ ?_
      match a with
      | ⟨0, _⟩ => show n ≤ t.val ∧ t.val < n + 1; omega
      | ⟨1, _⟩ => show 0 ≤ b.val ∧ b.val < 0 + 4; have := b.isLt; omega
      | ⟨2, _⟩ => show 0 ≤ d.val ∧ d.val < 0 + 256; have := d.isLt; omega
  · rw [if_neg h, dif_neg]
    intro hc
    have hc' := hc 0
    rw [hs 0] at hc'
    have hc'' : n ≤ t.val ∧ t.val < n + 1 := hc'
    omega

/-! ## One trip -/

/-- What the carried buffers hold before trip `n`. -/
structure Inv (A : Arrays) (n : ℕ) (V : Valuation τ sig (Elt Ideal)) : Prop where
  k : ∀ (t : Fin 256) b d, (V (Proc.devRef .tc main_v73_0) : FVec Ideal S256x4x256 .f32) (ix3 t b d) = A.feat b t d
  v : ∀ (t : Fin 256) b d, (V (Proc.devRef .tc main_v73_1) : FVec Ideal S256x4x256 .f32) (ix3 t b d) = A.v b t d
  g : ∀ (t : Fin 256) b, (V (Proc.devRef .tc main_v73_2) : FVec Ideal S256x4 .f32) (ix2 t b) = A.gam b t
  a : ∀ (t : Fin 256) b d, (V (Proc.devRef .tc main_v73_3) : FVec Ideal S256x4x256 .f32) (ix3 t b d) = (A.rows b).a t d
  e : ∀ (t : Fin 256) b d, (V (Proc.devRef .tc main_v73_4) : FVec Ideal S256x4x256 .f32) (ix3 t b d) = (A.rows b).e t d
  th : ∀ (t : Fin 256) b d, (V (Proc.devRef .tc main_v73_5) : FVec Ideal S256x4x256 .f32) (ix3 t b d) = (A.rows b).th t d
  len : ∀ t : Fin 256, (V (Proc.devRef .tc main_v73_6) : FVec Ideal S256 .f32) (ix1 t) = (((min (t.val + 1) 8 : ℕ) : ℝ) : EReal)
  i : V (Proc.devRef .tc main_v73_7) = fun _ => BitVec.ofNat 32 n
  M : ∀ b d e, (V (Proc.devRef .tc main_v73_8) : FVec Ideal S4x256x256 .f32) (ix3 b d e) = (A.st b n).1 e d
  S : ∀ b d e, (V (Proc.devRef .tc main_v73_9) : FVec Ideal S4x256x256 .f32) (ix3 b d e) = (A.st b n).2 e d
  bk : ∀ b (w : Fin 8) d, (V (Proc.devRef .tc main_v73_10) : FVec Ideal S4x8x256 .f32) (ix3 b w d) = win (A.feat b) n w.val d
  bv : ∀ b (w : Fin 8) d, (V (Proc.devRef .tc main_v73_11) : FVec Ideal S4x8x256 .f32) (ix3 b w d) = win (A.v b) n w.val d
  bg : ∀ b (w : Fin 8), (V (Proc.devRef .tc main_v73_12) : FVec Ideal S4x8 .f32) (ix2 b w) = win (A.gam b) n w.val
  y : ∀ (t : Fin 256) b d, t.val < n → (V (Proc.devRef .tc main_v73_13) : FVec Ideal S256x4x256 .f32) (ix3 t b d) = A.y b t d

section Trip

variable {A : Arrays} {n : ℕ} {V : Valuation τ sig (Elt Ideal)} (hV : Inv A n V) (hn : n < 256)
include hV hn

/-- The trip's row of the features. -/
theorem k_row : shapeCast S4x256 (Host.dynamicSlice S1x4x256 (V (Proc.devRef .tc main_v73_0)) (fun k => (((![V (Proc.devRef .tc main_v73_7), constantI S_ 32 0#32, constantI S_ 32 0#32] : Fin 3 → (⟨S_, .i32⟩ : BufTy).Contents (Elt Ideal))) k (Shape.Idx.first h_S_)).toInt) sliceFits_S256x4x256_S1x4x256) shapeCasts_S1x4x256_S4x256
    = fun j => A.feat (j 0) n (j 1) :=
  (slice3 n hn hV.i _ _ _).trans (funext fun j => hV.k ⟨n, hn⟩ (j 0) (j 1))

/-- The trip's row of the values. -/
theorem v_row : shapeCast S4x256 (Host.dynamicSlice S1x4x256 (V (Proc.devRef .tc main_v73_1)) (fun k => (((![V (Proc.devRef .tc main_v73_7), constantI S_ 32 0#32, constantI S_ 32 0#32] : Fin 3 → (⟨S_, .i32⟩ : BufTy).Contents (Elt Ideal))) k (Shape.Idx.first h_S_)).toInt) sliceFits_S256x4x256_S1x4x256) shapeCasts_S1x4x256_S4x256
    = fun j => A.v (j 0) n (j 1) :=
  (slice3 n hn hV.i _ _ _).trans (funext fun j => hV.v ⟨n, hn⟩ (j 0) (j 1))

/-- The trip's row of the decay gates. -/
theorem a_row : shapeCast S4x256 (Host.dynamicSlice S1x4x256 (V (Proc.devRef .tc main_v73_3)) (fun k => (((![V (Proc.devRef .tc main_v73_7), constantI S_ 32 0#32, constantI S_ 32 0#32] : Fin 3 → (⟨S_, .i32⟩ : BufTy).Contents (Elt Ideal))) k (Shape.Idx.first h_S_)).toInt) sliceFits_S256x4x256_S1x4x256) shapeCasts_S1x4x256_S4x256
    = fun j => (A.rows (j 0)).a n (j 1) :=
  (slice3 n hn hV.i _ _ _).trans (funext fun j => hV.a ⟨n, hn⟩ (j 0) (j 1))

/-- The trip's row of the step gates. -/
theorem e_row : shapeCast S4x256 (Host.dynamicSlice S1x4x256 (V (Proc.devRef .tc main_v73_4)) (fun k => (((![V (Proc.devRef .tc main_v73_7), constantI S_ 32 0#32, constantI S_ 32 0#32] : Fin 3 → (⟨S_, .i32⟩ : BufTy).Contents (Elt Ideal))) k (Shape.Idx.first h_S_)).toInt) sliceFits_S256x4x256_S1x4x256) shapeCasts_S1x4x256_S4x256
    = fun j => (A.rows (j 0)).e n (j 1) :=
  (slice3 n hn hV.i _ _ _).trans (funext fun j => hV.e ⟨n, hn⟩ (j 0) (j 1))

/-- The trip's row of the momentum gates. -/
theorem th_row : shapeCast S4x256 (Host.dynamicSlice S1x4x256 (V (Proc.devRef .tc main_v73_5)) (fun k => (((![V (Proc.devRef .tc main_v73_7), constantI S_ 32 0#32, constantI S_ 32 0#32] : Fin 3 → (⟨S_, .i32⟩ : BufTy).Contents (Elt Ideal))) k (Shape.Idx.first h_S_)).toInt) sliceFits_S256x4x256_S1x4x256) shapeCasts_S1x4x256_S4x256
    = fun j => (A.rows (j 0)).th n (j 1) :=
  (slice3 n hn hV.i _ _ _).trans (funext fun j => hV.th ⟨n, hn⟩ (j 0) (j 1))

/-- The trip's row of the window gates. -/
theorem g_row : shapeCast S4 (Host.dynamicSlice S1x4 (V (Proc.devRef .tc main_v73_2)) (fun k => (((![V (Proc.devRef .tc main_v73_7), constantI S_ 32 0#32] : Fin 2 → (⟨S_, .i32⟩ : BufTy).Contents (Elt Ideal))) k (Shape.Idx.first h_S_)).toInt) sliceFits_S256x4_S1x4) shapeCasts_S1x4_S4
    = fun j => A.gam (j 0) n :=
  (slice2 n hn hV.i _ _ _).trans (funext fun j => hV.g ⟨n, hn⟩ (j 0))

/-- The window's length at the trip. -/
theorem len_row : shapeCast S_ (Host.dynamicSlice S1 (V (Proc.devRef .tc main_v73_6)) (fun k => (((![V (Proc.devRef .tc main_v73_7)] : Fin 1 → (⟨S_, .i32⟩ : BufTy).Contents (Elt Ideal))) k (Shape.Idx.first h_S_)).toInt) sliceFits_S256_S1) shapeCasts_S1_S_
    = fun _ => (((min (n + 1) 8 : ℕ) : ℝ) : EReal) :=
  (slice1 n hn hV.i _ _ _).trans (funext fun _ => hV.len ⟨n, hn⟩)

/-- The trip's features. -/
theorem v80_val (b : Fin 4) (d : Fin 256) : (res_main_while0b_v80 V : FVec Ideal S4x256 .f32) (ix2 b d) = A.feat b n d := by
  unfold res_main_while0b_v80
  rw [k_row hV hn]
  rfl

/-- The window of features with the trip's. -/
theorem v89_val (b : Fin 4) (w : Fin 8) (d : Fin 256) :
    (res_main_while0b_v89 V : FVec Ideal S4x8x256 .f32) (ix3 b w d) = win (A.feat b) (n + 1) w.val d := by
  unfold res_main_while0b_v89
  pointwise
  split
  · rw [Cert.Atlas.win_shift, Nat.add_comm w.val 1]
    exact hV.bk b ⟨1 + w.val, by omega⟩ d
  · rw [show w.val = 7 from by omega, Cert.Atlas.win_new]
    exact v80_val hV hn b d

/-- The window of values with the trip's. -/
theorem v92_val (b : Fin 4) (w : Fin 8) (d : Fin 256) :
    (res_main_while0b_v92 V : FVec Ideal S4x8x256 .f32) (ix3 b w d) = win (A.v b) (n + 1) w.val d := by
  unfold res_main_while0b_v92
  rw [v_row hV hn]
  pointwise
  split
  · rw [Cert.Atlas.win_shift, Nat.add_comm w.val 1]
    exact hV.bv b ⟨1 + w.val, by omega⟩ d
  · rw [show w.val = 7 from by omega, Cert.Atlas.win_new]

/-- The window of window gates with the trip's. -/
theorem v95_val (b : Fin 4) (w : Fin 8) :
    (res_main_while0b_v95 V : FVec Ideal S4x8 .f32) (ix2 b w) = win (A.gam b) (n + 1) w.val := by
  unfold res_main_while0b_v95
  rw [g_row hV hn]
  pointwise
  split
  · rw [Cert.Atlas.win_shift, Nat.add_comm w.val 1]
    exact hV.bg b ⟨1 + w.val, by omega⟩
  · rw [show w.val = 7 from by omega, Cert.Atlas.win_new]

/-- The next momentum. -/
theorem v107_val (b : Fin 4) (d e : Fin 256) :
    (res_main_while0b_v107 V : FVec Ideal S4x256x256 .f32) (ix3 b d e) = (A.st b (n + 1)).2 e d := by
  unfold res_main_while0b_v107
  rw [th_row hV hn, len_row hV hn]
  pointwise
  show _ = (A.rows b).th n d * (A.st b n).2 e d + _
  refine congrArg₂ (· + ·) (congrArg₂ (· * ·) rfl (hV.S b d e)) ((Cert.Atlas.grad_eq A b n _ e d).symm ▸ ?_)
  refine congrArg (Ideal.div · _) (Finset.sum_congr rfl fun w _ => ?_)
  rw [v95_val hV hn, v89_val hV hn, v92_val hV hn]
  refine congrArg (· * _) (congrArg (_ * ·) (congrArg (· - _) (Finset.sum_congr rfl fun f _ => ?_)))
  rw [v89_val hV hn]
  exact congrArg (_ * ·) (hV.M b d f)

/-- The next momentum over its norm. -/
theorem v115_val (b : Fin 4) (d e : Fin 256) :
    (res_main_while0b_v115 V : FVec Ideal S4x256x256 .f32) (ix3 b d e)
      = Ideal.div ((A.st b (n + 1)).2 e d) (Cert.Atlas.nrm (A.st b (n + 1)).2) := by
  unfold res_main_while0b_v115
  pointwise
  simp only [v107_val hV hn]
  unfold Cert.Atlas.nrm Cert.Atlas.sumSq
  rw [Finset.sum_comm]
  rfl

/-- The next memory. -/
theorem v129_val (b : Fin 4) (d e : Fin 256) :
    (res_main_while0b_v129 V : FVec Ideal S4x256x256 .f32) (ix3 b d e) = (A.st b (n + 1)).1 e d := by
  unfold res_main_while0b_v129
  rw [a_row hV hn, e_row hV hn]
  pointwise
  simp only [v115_val hV hn]
  refine Eq.trans ?_ (Cert.Atlas.nextM_eq ((A.rows b).a n) ((A.rows b).e n) (A.st b n).1 (A.st b (n + 1)).2 (fun d => ?_) e d).symm
  · exact congrArg (· - _) (congrArg (_ * ·) (hV.M b d e))
  · obtain ⟨r, _, hr⟩ := Cert.Atlas.logistic_real (∑ f, A.x b n f * A.eW d f + A.eb d)
    obtain ⟨q, hq⟩ := Cert.Atlas.tenth_real
    exact ⟨r * q, (congrArg₂ (· * ·) hr hq).trans (EReal.coe_mul r q).symm⟩

/-- One trip keeps the invariant. -/
theorem Inv.step : Inv A (n + 1) (STEP V) where
  k t b d := by rw [STEP_main_v73_0]; exact hV.k t b d
  v t b d := by rw [STEP_main_v73_1]; exact hV.v t b d
  g t b := by rw [STEP_main_v73_2]; exact hV.g t b
  a t b d := by rw [STEP_main_v73_3]; exact hV.a t b d
  e t b d := by rw [STEP_main_v73_4]; exact hV.e t b d
  th t b d := by rw [STEP_main_v73_5]; exact hV.th t b d
  len t := by rw [STEP_main_v73_6]; exact hV.len t
  i := by
    rw [STEP_main_v73_7]
    unfold step_main_v73_7
    rw [hV.i]
    funext j
    show BitVec.ofNat 32 n + 1#32 = BitVec.ofNat 32 (n + 1)
    rw [BitVec.ofNat_add]
  M b d e := by rw [STEP_main_v73_8]; exact v129_val hV hn b d e
  S b d e := by rw [STEP_main_v73_9]; exact v107_val hV hn b d e
  bk b w d := by rw [STEP_main_v73_10]; exact v89_val hV hn b w d
  bv b w d := by rw [STEP_main_v73_11]; exact v92_val hV hn b w d
  bg b w := by rw [STEP_main_v73_12]; exact v95_val hV hn b w
  y t b d ht := by
    rw [STEP_main_v73_13]
    refine (update3 n hn hV.i _ _ updateFits_S256x4x256_S1x4x256 t b d).trans ?_
    by_cases h : t.val = n
    · rw [if_pos h, h]
      pointwise
      show _ = ∑ f, A.feat b n f * (A.st b (n + 1)).1 f d
      refine Finset.sum_congr rfl fun f _ => ?_
      rw [v80_val hV hn, v129_val hV hn]
      exact mul_comm _ _
    · rw [if_neg h]
      exact hV.y t b d (by omega)

end Trip

end Cert.ReferenceIdeal.Loop
-- ==== Proof.Entry.lean ====
/-
The reference's loop at its start, and the reference's three results after its last trip.
-/
module

public import proofs.«01_k».proof.Proof.Loop

@[expose] public section

set_option maxRecDepth 16384

noncomputable section

namespace Cert.ReferenceIdeal.Loop

open Cert.ReferenceIdeal Cert.ReferenceIdeal.Gen Cert.ReferenceIdeal.Value
open Cert.Atlas (Arrays win rowsOf)
open Idealize.SL.Sem
open Idealize.ShloMosaic Idealize.ShloMosaic.TcCoe

open Idealize.ShloMosaic.StableHlo
open scoped BigOperators

/-! ## What the reference computes before its loop -/

/-- A channel gate of all tokens, as the reference writes it. -/
def gateOf (x : FVec Ideal S4x256x256 .f32) (W : FVec Ideal S256x256 .f32) (b : FVec Ideal S256 .f32) : FVec Ideal S4x256x256 .f32 :=
  Host.divf (broadcastInDim S4x256x256 ![] bcast_S_S4x256x256 (constant S_ .f32 0x3F800000#32))
    (addf (broadcastInDim S4x256x256 ![] bcast_S_S4x256x256 (constant S_ .f32 0x3F800000#32))
      (Host.exp (Host.negf (addf
        (Host.dotGeneral dot_S4x256x256_S256x256_S4x256x256_2_0_01_1_n_n none x (transpose S256x256 [1, 0] W transposes_S256x256_S256x256_1_0))
        (broadcastInDim S4x256x256 ![0, 1, 2] bcast_S1x1x256_S4x256x256_0_1_2 (broadcastInDim S1x1x256 ![2] bcast_S256_S1x1x256_2 b))))))

/-- A channel gate of one token. -/
theorem gateOf_apply (x : FVec Ideal S4x256x256 .f32) (W : FVec Ideal S256x256 .f32) (w : FVec Ideal S256 .f32) (b : Fin 4) (t d : Fin 256) :
    gateOf x W w (ix3 b t d) = Ideal.logistic (∑ e, x (ix3 b t e) * W (ix2 d e) + w (ix1 d)) := by
  unfold gateOf
  pointwise
  rfl

/-- The window gate of all tokens, as the reference writes it. -/
def gamOf (x : FVec Ideal S4x256x256 .f32) (w : FVec Ideal S256 .f32) (b : FVec Ideal S1 .f32) : FVec Ideal S4x256 .f32 :=
  Host.divf (broadcastInDim S4x256 ![] bcast_S_S4x256 (constant S_ .f32 0x3F800000#32))
    (addf (broadcastInDim S4x256 ![] bcast_S_S4x256 (constant S_ .f32 0x3F800000#32))
      (Host.exp (Host.negf (addf (Host.dotGeneral dot_S4x256x256_S256_S4x256_2_0_01_n_n_n none x w)
        (broadcastInDim S4x256 ![] bcast_S_S4x256 (shapeCast S_ b shapeCasts_S1_S_))))))

/-- The window gate of one token. -/
theorem gamOf_apply (x : FVec Ideal S4x256x256 .f32) (w : FVec Ideal S256 .f32) (g : FVec Ideal S1 .f32) (b : Fin 4) (t : Fin 256) :
    gamOf x w g (ix2 b t) = Ideal.logistic (∑ e, x (ix3 b t e) * w (ix1 e) + g (ix1 0)) := by
  unfold gamOf
  pointwise
  rfl

/-- The polynomial features of all tokens, as the reference writes them. -/
def featOf (k : FVec Ideal S4x256x256 .f32) (p : FVec Ideal S2x256 .f32) : FVec Ideal S4x256x256 .f32 :=
  addf (mulf (broadcastInDim S4x256x256 ![0, 1, 2] bcast_S1x1x256_S4x256x256_0_1_2 (broadcastInDim S1x1x256 ![2] bcast_S256_S1x1x256_2
      (shapeCast S256 (extractStridedSlice S1x256 ![0, 0] p slices_S2x256_S1x256_0_0) shapeCasts_S1x256_S256))) k)
    (mulf (broadcastInDim S4x256x256 ![0, 1, 2] bcast_S1x1x256_S4x256x256_0_1_2 (broadcastInDim S1x1x256 ![2] bcast_S256_S1x1x256_2
      (shapeCast S256 (extractStridedSlice S1x256 ![1, 0] p slices_S2x256_S1x256_1_0) shapeCasts_S1x256_S256))) (mulf k k))

/-- The polynomial features of one token. -/
theorem featOf_apply (k : FVec Ideal S4x256x256 .f32) (p : FVec Ideal S2x256 .f32) (b : Fin 4) (t d : Fin 256) :
    featOf k p (ix3 b t d) = p (ix2 0 d) * k (ix3 b t d) + p (ix2 1 d) * (k (ix3 b t d) * k (ix3 b t d)) := by
  unfold featOf
  pointwise

/-- The window lengths, as the reference writes them. -/
def lenOf : FVec Ideal S256 .f32 :=
  sitofp .f32 (minsi (addi (iotaInDim S256 32 0) (broadcastInDim S256 ![] bcast_S_S256 (constantI S_ 32 1#32)))
    (broadcastInDim S256 ![] bcast_S_S256 (constantI S_ 32 8#32)))

/-- The words of a window length read as numbers. -/
theorem len_toInt : ∀ t : Fin 256, (IntOp.minsi (IntOp.addi (BitVec.ofNat 32 t.val) 1#32) 8#32).toInt = ((min (t.val + 1) 8 : ℕ) : ℤ) := by
  decide

/-- The window length at one token. -/
theorem lenOf_apply (t : Fin 256) : lenOf (ix1 t) = (((min (t.val + 1) 8 : ℕ) : ℝ) : EReal) := by
  unfold lenOf
  pointwise
  show (((IntOp.minsi (IntOp.addi (BitVec.ofNat 32 t.val) 1#32) 8#32).toInt : ℝ) : EReal) = _
  rw [len_toInt t, Int.cast_natCast]

/-! ## The loop's start -/

/-- A token's row of an array is the array's. -/
theorem rowsOf_val (X : FVec Ideal S4x256x256 .f32) (b : Fin 4) (t d : Fin 256) : rowsOf X b t.val d = X (ix3 b t d) := by
  unfold rowsOf
  rw [dif_pos t.isLt]
  exact congrArg X (funext fun a => by fin_cases a <;> rfl)

variable (m : (ℓ : Loc nD τ sig) → Buf (Elt Ideal) ℓ) (ρ : Dev nD → PrngReg)

/-- The problem's arrays, in the reference's argument buffers. -/
def inputs (c : Dev nD) : Arrays := Arrays.of
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))

/-- The features of a token in the problem's arrays. -/
theorem feat_val (c : Dev nD) (b : Fin 4) (t d : Fin 256) :
    (inputs m c).feat b t.val d = featOf (m ((c.tc : Thread nD τ).loc main_arg1)) (m ((c.tc : Thread nD τ).loc main_arg5)) (ix3 b t d) := by
  have h : (inputs m c).k b t.val d = (m ((c.tc : Thread nD τ).loc main_arg1)) (ix3 b t d) := rowsOf_val _ b t d
  rw [featOf_apply]
  unfold Arrays.feat
  rw [h]
  rfl

/-- The gate of a token in the problem's arrays. -/
theorem gate_val (c : Dev nD) (W : FVec Ideal S256x256 .f32) (w : FVec Ideal S256 .f32) (b : Fin 4) (t d : Fin 256) :
    (inputs m c).gate (fun d e => W (ix2 d e)) (fun d => w (ix1 d)) b t.val d = gateOf (m ((c.tc : Thread nD τ).loc main_arg0)) W w (ix3 b t d) := by
  rw [gateOf_apply]
  refine congrArg Ideal.logistic (congrArg (· + _) (Finset.sum_congr rfl fun e _ => ?_))
  exact congrArg (· * _) (rowsOf_val _ b t e)

/-- The features the loop starts with. -/
theorem entry_k (c : Dev nD) : entryContents preI m c (Proc.devRef .tc main_v73_0) = transpose S256x4x256 [1, 0, 2] (featOf (m ((c.tc : Thread nD τ).loc main_arg1)) (m ((c.tc : Thread nD τ).loc main_arg5))) transposes_S4x256x256_S256x4x256_1_0_2 := rfl
/-- The values the loop starts with. -/
theorem entry_v (c : Dev nD) : entryContents preI m c (Proc.devRef .tc main_v73_1) = transpose S256x4x256 [1, 0, 2] (m ((c.tc : Thread nD τ).loc main_arg2)) transposes_S4x256x256_S256x4x256_1_0_2 := rfl
/-- The window gates the loop starts with. -/
theorem entry_g (c : Dev nD) : entryContents preI m c (Proc.devRef .tc main_v73_2) = transpose S256x4 [1, 0] (gamOf (m ((c.tc : Thread nD τ).loc main_arg0)) (m ((c.tc : Thread nD τ).loc main_arg12)) (m ((c.tc : Thread nD τ).loc main_arg13))) transposes_S4x256_S256x4_1_0 := rfl
/-- The decay gates the loop starts with. -/
theorem entry_a (c : Dev nD) : entryContents preI m c (Proc.devRef .tc main_v73_3) = transpose S256x4x256 [1, 0, 2] (gateOf (m ((c.tc : Thread nD τ).loc main_arg0)) (m ((c.tc : Thread nD τ).loc main_arg6)) (m ((c.tc : Thread nD τ).loc main_arg7))) transposes_S4x256x256_S256x4x256_1_0_2 := rfl
/-- The step sizes the loop starts with. -/
theorem entry_e (c : Dev nD) : entryContents preI m c (Proc.devRef .tc main_v73_4) = transpose S256x4x256 [1, 0, 2] (mulf (gateOf (m ((c.tc : Thread nD τ).loc main_arg0)) (m ((c.tc : Thread nD τ).loc main_arg8)) (m ((c.tc : Thread nD τ).loc main_arg9))) (broadcastInDim S4x256x256 ![] bcast_S_S4x256x256 (constant S_ .f32 0x3DCCCCCD#32))) transposes_S4x256x256_S256x4x256_1_0_2 := rfl
/-- The momentum gates the loop starts with. -/
theorem entry_th (c : Dev nD) : entryContents preI m c (Proc.devRef .tc main_v73_5) = transpose S256x4x256 [1, 0, 2] (gateOf (m ((c.tc : Thread nD τ).loc main_arg0)) (m ((c.tc : Thread nD τ).loc main_arg10)) (m ((c.tc : Thread nD τ).loc main_arg11))) transposes_S4x256x256_S256x4x256_1_0_2 := rfl
/-- The window lengths the loop starts with. -/
theorem entry_len (c : Dev nD) : entryContents preI m c (Proc.devRef .tc main_v73_6) = lenOf := rfl
/-- The memory the loop starts with. -/
theorem entry_M (c : Dev nD) : entryContents preI m c (Proc.devRef .tc main_v73_8) = m ((c.tc : Thread nD τ).loc main_arg3) := rfl
/-- The momentum the loop starts with. -/
theorem entry_S (c : Dev nD) : entryContents preI m c (Proc.devRef .tc main_v73_9) = m ((c.tc : Thread nD τ).loc main_arg4) := rfl
/-- The window of features the loop starts with. -/
theorem entry_bk (c : Dev nD) : entryContents preI m c (Proc.devRef .tc main_v73_10) = (broadcastInDim S4x8x256 ![] bcast_S_S4x8x256 (constant S_ .f32 0x00000000#32) : FVec Ideal S4x8x256 .f32) := rfl
/-- The window of values the loop starts with. -/
theorem entry_bv (c : Dev nD) : entryContents preI m c (Proc.devRef .tc main_v73_11) = (broadcastInDim S4x8x256 ![] bcast_S_S4x8x256 (constant S_ .f32 0x00000000#32) : FVec Ideal S4x8x256 .f32) := rfl
/-- The window of gates the loop starts with. -/
theorem entry_bg (c : Dev nD) : entryContents preI m c (Proc.devRef .tc main_v73_12) = (broadcastInDim S4x8 ![] bcast_S_S4x8 (constant S_ .f32 0x00000000#32) : FVec Ideal S4x8 .f32) := rfl

/-- A window before the first token holds zeros. -/
theorem win_zero {β : Type} [Zero β] (x : ℕ → β) (w : Fin 8) : win x 0 w.val = 0 := by
  unfold win
  rw [if_neg (by have := w.isLt; omega)]

/-- The invariant holds before the first trip. -/
theorem Inv.entry (c : Dev nD) : Inv (inputs m c) 0 (entryContents preI m c) where
  k t b d := by
    rw [entry_k]
    pointwise
    exact (feat_val m c b t d).symm
  v t b d := by
    rw [entry_v]
    pointwise
    exact (rowsOf_val _ b t d).symm
  g t b := by
    rw [entry_g]
    pointwise
    rw [gamOf_apply]
    exact congrArg Ideal.logistic (congrArg (· + _) (Finset.sum_congr rfl fun e _ => congrArg (· * _) (rowsOf_val _ b t e).symm))
  a t b d := by
    rw [entry_a]
    pointwise
    exact (gate_val m c _ _ b t d).symm
  e t b d := by
    rw [entry_e]
    pointwise
    exact congrArg (· * _) (gate_val m c _ _ b t d).symm
  th t b d := by
    rw [entry_th]
    pointwise
    exact (gate_val m c _ _ b t d).symm
  len t := by rw [entry_len]; exact lenOf_apply t
  i := ctr_entry m c
  M b d e := by rw [entry_M]; rfl
  S b d e := by rw [entry_S]; rfl
  bk b w d := by rw [entry_bk, win_zero]; pointwise; rfl
  bv b w d := by rw [entry_bv, win_zero]; pointwise; rfl
  bg b w := by rw [entry_bg, win_zero]; pointwise
  y t b d ht := absurd ht (Nat.not_lt_zero _)

/-- The invariant holds before every trip, and after the last. -/
theorem Inv.trips (c : Dev nD) : ∀ n ≤ 256, Inv (inputs m c) n (STEP^[n] (entryContents preI m c))
  | 0, _ => Inv.entry m c
  | n + 1, hn => by
    rw [Function.iterate_succ_apply']
    exact Inv.step (Inv.trips c n (by omega)) (by omega)

/-! ## The results -/

/-- The output of the reference. -/
theorem out_outs (c : Dev nD) : out_main_v79 (STEP^[256] (entryContents preI m c)) = (inputs m c).outs := by
  have hV := Inv.trips m c 256 le_rfl
  have h14 := iter_main_arg14 m c 256
  have h15 := iter_main_arg15 m c 256
  generalize STEP^[256] (entryContents preI m c) = V at hV h14 h15 ⊢
  funext j
  have hj : j = ix3 (j 0) (j 1) (j 2) := funext fun a => by fin_cases a <;> rfl
  rw [hj]
  generalize j 0 = b, j 1 = t, j 2 = d
  unfold out_main_v79
  rw [h14, h15]
  pointwise
  refine congrArg (· + _) (Finset.sum_congr rfl fun f _ => ?_)
  exact congrArg (· * _) (hV.y t b f t.isLt)

/-- The memory the reference ends with. -/
theorem out_mem (c : Dev nD) : (STEP^[256] (entryContents preI m c)) (Proc.devRef .tc main_v73_8) = (inputs m c).mem := by
  have hV := Inv.trips m c 256 le_rfl
  funext j
  have hj : j = ix3 (j 0) (j 1) (j 2) := funext fun a => by fin_cases a <;> rfl
  rw [hj]
  exact hV.M (j 0) (j 1) (j 2)

/-- The momentum the reference ends with. -/
theorem out_mom (c : Dev nD) : (STEP^[256] (entryContents preI m c)) (Proc.devRef .tc main_v73_9) = (inputs m c).mom := by
  have hV := Inv.trips m c 256 le_rfl
  funext j
  have hj : j = ix3 (j 0) (j 1) (j 2) := funext fun a => by fin_cases a <;> rfl
  rw [hj]
  exact hV.S (j 0) (j 1) (j 2)

/-- The reference computes the problem's three results and leaves its arguments as they were. -/
theorem reference_run : θ_run (defs (F := Ideal)) (onTc (τ := τ) (main (F := Ideal))) ⟨m, fun _ => 0, ρ⟩ (fun r => ∀ c : Dev nD,
      r.2.mem ((c.tc : Thread nD τ).loc main_v79) = (inputs m c).outs
      ∧ r.2.mem ((c.tc : Thread nD τ).loc main_v73_8) = (inputs m c).mem
      ∧ r.2.mem ((c.tc : Thread nD τ).loc main_v73_9) = (inputs m c).mom
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ hr c => ⟨(hr c).1.trans (out_outs m c), (hr c).2.1.trans (out_mem m c), (hr c).2.2.1.trans (out_mom m c),
    (hr c).2.2.2⟩) (run m ρ)

end Cert.ReferenceIdeal.Loop
-- ==== Proof.Value.lean ====
/-
The value claim: at the extended reals the kernel and the reference end with the same three results.
-/
module

public import proofs.«01_k».proof.Proof.Final
public import proofs.«01_k».proof.Proof.Entry
public import proofs.«01_k».proof.Defs

@[expose] public section

noncomputable section

namespace Cert.Proof

open Idealize.ShloMosaic Idealize.SL.Sem

/-- The problem's arrays are the same on both sides when the arguments are. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Loop.inputs m' c = Cert.KernelIdeal.Result.inputs m c := by
  obtain ⟨h0, h1, h2, h3, h4, h5, h6, h7, h8, h9, h10, h11, h12, h13, h14, h15⟩ := h
  unfold Cert.ReferenceIdeal.Loop.inputs Cert.KernelIdeal.Result.inputs
  rw [h0, h1, h2, h3, h4, h5, h6, h7, h8, h9, h10, h11, h12, h13, h14, h15]

/-- The kernel's three results are the reference's. -/
theorem algebraic : @Cert.algebraic_KernelIdeal_ReferenceIdeal Cert.KernelIdeal.Gen.facts Cert.ReferenceIdeal.Gen.facts := by
  intro m g m' g' _ h
  refine ⟨fun c => (Cert.KernelIdeal.Result.inputs m c).outs, fun c => (Cert.KernelIdeal.Result.inputs m c).mem,
    fun c => (Cert.KernelIdeal.Result.inputs m c).mom, Cert.KernelIdeal.Result.kernel_run m g, ?_⟩
  refine (θ_run _ _ _).mono (fun _ hr c => ?_) (Cert.ReferenceIdeal.Loop.reference_run m' g')
  have hc := hr c
  rw [inputs_eq m m' c (h c)] at hc
  exact hc

end Cert.Proof
-- ==== Proof.lean ====
/- The proof of the certificate's claim, put together from the modules under Proof/. -/
module

public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, frame_kernel, frame_ideal, frame_reference, preserves, algebraic⟩

end Cert.Proof

end
